-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S4x3072x3584 : Shape := ⟨3, ![4, 3072, 3584]⟩
abbrev S3584x960 : Shape := ⟨2, ![3584, 960]⟩
abbrev S112x1920 : Shape := ⟨2, ![112, 1920]⟩
abbrev S_ : Shape := ⟨0, ![]⟩

class Facts : Prop where
  bcast_S_S4x3072x3584 : S_.BroadcastsInDim S4x3072x3584 (![] : Fin 0 → Fin S4x3072x3584.rank)

variable [Facts]

def fn {F : FTy → Type} [FloatOps F] (main_arg0 : FVec F S4x3072x3584 .bf16) (main_arg1 : IVec S3584x960 8) (main_arg2 : IVec S112x1920 8) : IVec S4x3072x3584 1 :=
  let main_v0 : FVec F S4x3072x3584 .bf16 := Host.absf main_arg0
  let main_cst : FVec F S_ .bf16 := constant S_ .bf16 0x7F7F#16
  let main_v1 : FVec F S4x3072x3584 .bf16 := broadcastInDim S4x3072x3584 ![] bcast_S_S4x3072x3584 main_cst
  let main_v2 : IVec S4x3072x3584 1 := cmpf .ole main_v0 main_v1
  main_v2
-- ==== Kernel.lean ====
abbrev S4x3072x3584 : Shape := ⟨3, ![4, 3072, 3584]⟩
abbrev S3584x960 : Shape := ⟨2, ![3584, 960]⟩
abbrev S112x1920 : Shape := ⟨2, ![112, 1920]⟩
abbrev S12288x3584 : Shape := ⟨2, ![12288, 3584]⟩
abbrev S12288x1920 : Shape := ⟨2, ![12288, 1920]⟩
abbrev S12288x1 : Shape := ⟨2, ![12288, 1]⟩
abbrev S512x3584 : Shape := ⟨2, ![512, 3584]⟩
abbrev S512x1920 : Shape := ⟨2, ![512, 1920]⟩
abbrev S512x1 : Shape := ⟨2, ![512, 1]⟩
abbrev S3584x1920 : Shape := ⟨2, ![3584, 1920]⟩
abbrev S32x960 : Shape := ⟨2, ![32, 960]⟩
abbrev S8x960 : Shape := ⟨2, ![8, 960]⟩
abbrev S1x1920 : Shape := ⟨2, ![1, 1920]⟩
abbrev S1x960 : Shape := ⟨2, ![1, 960]⟩
abbrev S512 : Shape := ⟨1, ![512]⟩
abbrev S1x256 : Shape := ⟨2, ![1, 256]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S4x3072x3584, .bf16⟩
  | .hbm, ⟨1, _⟩ => ⟨S3584x960, .i8⟩
  | .hbm, ⟨2, _⟩ => ⟨S112x1920, .i8⟩
  | .hbm, ⟨3, _⟩ => ⟨S12288x3584, .bf16⟩
  | .hbm, ⟨4, _⟩ => ⟨S12288x1920, .bf16⟩
  | .hbm, ⟨5, _⟩ => ⟨S12288x3584, .fp8e4m3⟩
  | .hbm, ⟨6, _⟩ => ⟨S12288x1, .f32⟩
  | .local _ .vmem, ⟨0, _⟩ => ⟨S512x3584, .bf16⟩
  | .local _ .vmem, ⟨1, _⟩ => ⟨S512x3584, .bf16⟩
  | .local _ .vmem, ⟨2, _⟩ => ⟨S3584x960, .i8⟩
  | .local _ .vmem, ⟨3, _⟩ => ⟨S112x1920, .i8⟩
  | .local _ .vmem, ⟨4, _⟩ => ⟨S512x1920, .bf16⟩
  | .local _ .vmem, ⟨5, _⟩ => ⟨S512x1920, .bf16⟩
  | .local _ .vmem, ⟨6, _⟩ => ⟨S512x3584, .fp8e4m3⟩
  | .local _ .vmem, ⟨7, _⟩ => ⟨S512x3584, .fp8e4m3⟩
  | .local _ .vmem, ⟨8, _⟩ => ⟨S512x1, .f32⟩
  | .local _ .vmem, ⟨9, _⟩ => ⟨S512x1, .f32⟩
  | .local _ .vmem, ⟨10, _⟩ => ⟨S112x1920, .f32⟩
  | .local _ .vmem, ⟨11, _⟩ => ⟨S3584x1920, .bf16⟩
  | _, _ => ⟨S4x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_26 : BitVec 32 := 0#32
  let c112_i32 : BitVec 32 := 112#32
  let v69 : BitVec 32 := Scalar.addi c0_i32_26 c112_i32
  let c1_i32 : BitVec 32 := 1#32
  ⟨c0_i32_26, v69, c1_i32⟩
def k0_mult1 (k0_t1 : Fin k0_t1_loop.trips) : BitVec 32 :=
  let c0_i32_26 : BitVec 32 := 0#32
  let c1_i32 : BitVec 32 := 1#32
  let arg9 : BitVec 32 := Scf.iv c0_i32_26 c1_i32 k0_t1
  let c32_i32 : BitVec 32 := 32#32
  let v70 : BitVec 32 := Scalar.muli arg9 c32_i32
  v70
def k0_off1 (k0_t1 : Fin k0_t1_loop.trips) : Fin 2 → Nat :=
  let c0_i32_26 : BitVec 32 := 0#32
  let c1_i32 : BitVec 32 := 1#32
  let arg9 : BitVec 32 := Scf.iv c0_i32_26 c1_i32 k0_t1
  let c32_i32 : BitVec 32 := 32#32
  let v70 : BitVec 32 := Scalar.muli arg9 c32_i32
  let v71 : BitVec 32 := v70
  let v72 : Index := Scalar.indexCast v71
  let c0_28 : Index := 0#32
  ![v72.toNat, 0]
def k0_off2 (k0_t1 : Fin k0_t1_loop.trips) : Fin 2 → Nat :=
  let c0_i32_26 : BitVec 32 := 0#32
  let c1_i32 : BitVec 32 := 1#32
  let arg9 : BitVec 32 := Scf.iv c0_i32_26 c1_i32 k0_t1
  let v75 : Index := Scalar.indexCast arg9
  let c0_29 : Index := 0#32
  ![v75.toNat, 0]
def k0_off3 (k0_t1 : Fin k0_t1_loop.trips) : Fin 2 → Nat :=
  let c0_i32_26 : BitVec 32 := 0#32
  let c1_i32 : BitVec 32 := 1#32
  let arg9 : BitVec 32 := Scf.iv c0_i32_26 c1_i32 k0_t1
  let c32_i32 : BitVec 32 := 32#32
  let v70 : BitVec 32 := Scalar.muli arg9 c32_i32
  let v71 : BitVec 32 := v70
  let v101 : Index := Scalar.indexCast v71
  let c0_32 : Index := 0#32
  ![v101.toNat, 0]
def k0_off4 (k0_t1 : Fin k0_t1_loop.trips) : Fin 2 → Nat :=
  let c0_i32_26 : BitVec 32 := 0#32
  let c1_i32 : BitVec 32 := 1#32
  let arg9 : BitVec 32 := Scf.iv c0_i32_26 c1_i32 k0_t1
  let c32_i32 : BitVec 32 := 32#32
  let v70 : BitVec 32 := Scalar.muli arg9 c32_i32
  let v71 : BitVec 32 := v70
  let v113 : Index := Scalar.indexCast v71
  let c960 : Index := 960#32
  ![v113.toNat, 960]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x960 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S112x1920 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x3072x3584 : Shape := ⟨3, ![4, 3072, 3584]⟩
abbrev S3584x960 : Shape := ⟨2, ![3584, 960]⟩
abbrev S112x1920 : Shape := ⟨2, ![112, 1920]⟩
abbrev S12288x3584 : Shape := ⟨2, ![12288, 3584]⟩
abbrev S12288x1920 : Shape := ⟨2, ![12288, 1920]⟩
abbrev S12288x1 : Shape := ⟨2, ![12288, 1]⟩
abbrev S12288 : Shape := ⟨1, ![12288]⟩
abbrev S1x256 : Shape := ⟨2, ![1, 256]⟩
abbrev S12288x256 : Shape := ⟨2, ![12288, 256]⟩
abbrev S112x960 : Shape := ⟨2, ![112, 960]⟩
abbrev S112x32x960 : Shape := ⟨3, ![112, 32, 960]⟩
abbrev S112x1x960 : Shape := ⟨3, ![112, 1, 960]⟩
abbrev S12288x960 : Shape := ⟨2, ![12288, 960]⟩

abbrev nBuf : Space → Nat
  | .hbm => 7
  | .vmem => 6
  | .smem => 0
  | _ => 0

abbrev bufTy : (tb : Table) → Fin (tcTables nBuf tb) → BufTy
  | .hbm, ⟨0, _⟩ => ⟨S4x3072x3584, .bf16⟩
  | .hbm, ⟨1, _⟩ => ⟨S3584x960, .i8⟩
  | .hbm, ⟨2, _⟩ => ⟨S112x1920, .i8⟩
  | .hbm, ⟨3, _⟩ => ⟨S12288x3584, .bf16⟩
  | .hbm, ⟨4, _⟩ => ⟨S12288x1920, .bf16⟩
  | .hbm, ⟨5, _⟩ => ⟨S12288x3584, .fp8e4m3⟩
  | .hbm, ⟨6, _⟩ => ⟨S12288x1, .f32⟩
  | .local _ .vmem, ⟨0, _⟩ => ⟨S12288x3584, .bf16⟩
  | .local _ .vmem, ⟨1, _⟩ => ⟨S3584x960, .i8⟩
  | .local _ .vmem, ⟨2, _⟩ => ⟨S112x1920, .i8⟩
  | .local _ .vmem, ⟨3, _⟩ => ⟨S12288x1920, .bf16⟩
  | .local _ .vmem, ⟨4, _⟩ => ⟨S12288x3584, .fp8e4m3⟩
  | .local _ .vmem, ⟨5, _⟩ => ⟨S12288x1, .f32⟩
  | _, _ => ⟨S4x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x960 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x1920 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Powers.lean ====
/-
  The numbers the two programs write as bit patterns, as real numbers: powers of two built by shifting an exponent
  into place, and the constants.
-/
module

public import Idealize.ShloMosaic.Lib.Pointwise

@[expose] public section
noncomputable section

namespace Cert.Proof
open Idealize.ShloMosaic

/-- A float32 bit pattern with sign bit zero, exponent field `k` from 1 to 254 and fraction zero is the power of two `2 ^ (k - 127)`. -/
theorem ieee_pow (b : BitVec 32) (k : ℕ) (h1 : 1 ≤ k) (h2 : k ≤ 254) (hneg : b.extractLsb' 31 1 = 0#1)
    (hex : (b.extractLsb' 23 8).toNat = k) (hfr : (b.extractLsb' 0 23).toNat = 0) :
    Ideal.ofBits .f32 b = (((2 : ℝ) ^ ((k : ℤ) - 127) : ℝ) : EReal) := by
  show Ideal.ieee 8 23 b = _
  unfold Ideal.ieee
  dsimp only [Nat.reduceAdd]
  rw [hneg, hex, hfr, if_neg (by omega), if_neg (by omega)]
  congr 1
  rw [show ((k : ℤ) - 127) = 23 + ((k : ℤ) - 127 - 23) by ring, zpow_add₀ (by norm_num)]
  norm_num

/-- A number `k` from 1 to 254 in the exponent field of a float32, all other bits zero, is the power of two `2 ^ (k - 127)`. -/
theorem ofBits_pow (k : ℕ) (h1 : 1 ≤ k) (h2 : k ≤ 254) :
    Ideal.ofBits .f32 (BitVec.ofNat 32 k <<< 23) = (((2 : ℝ) ^ ((k : ℤ) - 127) : ℝ) : EReal) := by
  have ht : (BitVec.ofNat 32 k <<< 23).toNat = k * 2 ^ 23 := by
    rw [BitVec.toNat_shiftLeft, BitVec.toNat_ofNat, Nat.shiftLeft_eq]; omega
  refine ieee_pow _ k h1 h2 (BitVec.eq_of_toNat_eq ?_) ?_ ?_
  · rw [BitVec.extractLsb'_toNat, ht, Nat.shiftRight_eq_div_pow]
    show k * 2 ^ 23 / 2 ^ 31 % 2 ^ 1 = 0
    omega
  · rw [BitVec.extractLsb'_toNat, ht, Nat.shiftRight_eq_div_pow]; omega
  · rw [BitVec.extractLsb'_toNat, ht, Nat.shiftRight_eq_div_pow]; omega

/-- Exponent field zero: the number zero. -/
theorem ofBits_pow_zero : Ideal.ofBits .f32 (BitVec.ofNat 32 0 <<< 23) = 0 := by
  simp [Ideal.ofBits, Ideal.ieee]

/-- Exponent field 255: infinity. -/
theorem ofBits_pow_top : Ideal.ofBits .f32 (BitVec.ofNat 32 255 <<< 23) = ⊤ := by
  simp [Ideal.ofBits, Ideal.ieee]

theorem ofBits_64 : Ideal.ofBits .f32 1115684864#32 = ((64 : ℝ) : EReal) := by
  rw [ieee_pow _ 133 (by decide) (by decide) (by decide) (by decide) (by decide)]; norm_num

/-- The smallest positive normal float32. -/
theorem ofBits_minNormal : Ideal.ofBits .f32 8388608#32 = (((2 : ℝ) ^ (-126 : ℤ) : ℝ) : EReal) := by
  rw [ieee_pow _ 1 (by decide) (by decide) (by decide) (by decide) (by decide)]; norm_num

theorem ofBits_f32_top : Ideal.ofBits .f32 2139095040#32 = ⊤ := by
  simp [Ideal.ofBits, Ideal.ieee]

theorem ofBits_f32_bot : Ideal.ofBits .f32 4286578688#32 = ⊥ := by
  simp [Ideal.ofBits, Ideal.ieee]

theorem ofBits_bf16_bot : Ideal.ofBits .bf16 65408#16 = ⊥ := by
  simp [Ideal.ofBits, Ideal.ieee]

/-- The float32 the largest magnitude of a row is multiplied by. -/
theorem ofBits_c : Ideal.ofBits .f32 991054117#32 = (((9586981 : ℝ) * 2 ^ (-32 : ℤ) : ℝ) : EReal) := by
  show Ideal.ieee 8 23 991054117#32 = _
  unfold Ideal.ieee
  dsimp only [Nat.reduceAdd]
  rw [show ((991054117#32).extractLsb' 31 1) = 0#1 by decide, show ((991054117#32).extractLsb' 23 8).toNat = 118 by decide,
    show ((991054117#32).extractLsb' 0 23).toNat = 1198373 by decide, if_neg (by omega), if_neg (by omega)]
  congr 1
  norm_num

/-- The largest finite bfloat16. -/
theorem ofBits_bfmax : Ideal.ofBits .bf16 32639#16 = (((255 : ℝ) * 2 ^ (120 : ℤ) : ℝ) : EReal) := by
  show Ideal.ieee 8 7 32639#16 = _
  unfold Ideal.ieee
  dsimp only [Nat.reduceAdd]
  rw [show ((32639#16).extractLsb' 15 1) = 0#1 by decide, show ((32639#16).extractLsb' 7 8).toNat = 254 by decide,
    show ((32639#16).extractLsb' 0 7).toNat = 127 by decide, if_neg (by omega), if_neg (by omega)]
  congr 1
  norm_num

end Cert.Proof
end
-- ==== Proof.Exponent.lean ====
/-
  The power-of-two scale of a row. From the row's scaled largest magnitude `a`, the kernel finds the exponent by counting
  the powers of two that `a` reaches; the reference takes the smallest exponent whose power exceeds `a`. Both are the
  exponent `expo f` of one number `f`, the exponent field that `a` has as a float32.
-/
module

public import proofs.«01_k».proof.Proof.Powers
public import Idealize.ShloMosaic.Lib.IndicatorCount

@[expose] public section
noncomputable section

namespace Cert.Proof
open Idealize.ShloMosaic Idealize.ShloMosaic.IndicatorCount

/-- `f` is the exponent field of `a`: the powers of two `2 ^ (k - 127)`, `1 ≤ k ≤ 254`, that `a` reaches are those with `k ≤ f`. -/
def IsField (a : ℝ) (f : ℕ) : Prop :=
  f ≤ 252 ∧ ∀ k : ℕ, 1 ≤ k → k ≤ 254 → ((2 : ℝ) ^ ((k : ℤ) - 127) ≤ a ↔ k ≤ f)

/-- Every real number from zero to below `2 ^ 126` has an exponent field. -/
theorem exists_field (a : ℝ) (h0 : 0 ≤ a) (h1 : a < (2 : ℝ) ^ (126 : ℤ)) : ∃ f, IsField a f := by
  rcases eq_or_lt_of_le h0 with h | h
  · refine ⟨0, by omega, fun k hk _ => ?_⟩
    subst h
    have := zpow_pos (two_pos : (0 : ℝ) < 2) ((k : ℤ) - 127)
    constructor
    · intro h; linarith
    · intro h; omega
  · obtain ⟨n, hn1, hn2⟩ := exists_mem_Ico_zpow h (one_lt_two : (1 : ℝ) < 2)
    have hn : n < 126 := (zpow_lt_zpow_iff_right₀ (one_lt_two : (1 : ℝ) < 2)).1 (lt_of_le_of_lt hn1 h1)
    refine ⟨(n + 127).toNat, by omega, fun k hk _ => ?_⟩
    constructor
    · intro hle
      have := (zpow_lt_zpow_iff_right₀ (one_lt_two : (1 : ℝ) < 2)).1 (lt_of_le_of_lt hle hn2)
      omega
    · intro hkf
      exact le_trans (zpow_le_zpow_right₀ (by norm_num) (by omega)) hn1

/-- The exponent of the scale of a row whose field is `f`. -/
def expo (f : ℕ) : ℤ := if f = 0 then 0 else (f : ℤ) - 126

variable {a : ℝ} {f : ℕ}

/-- The field is zero exactly when `a` is below the smallest normal float32. -/
theorem IsField.zero_iff (h : IsField a f) : a < (2 : ℝ) ^ (-126 : ℤ) ↔ f = 0 := by
  have := h.2 1 le_rfl (by omega)
  rw [show ((1 : ℕ) : ℤ) - 127 = -126 by norm_num] at this
  rw [← not_le, this]
  omega

/-- `a` is below `2 ^ (x - 125)` exactly when its field is below `x + 2`. -/
theorem IsField.lt_iff (h : IsField a f) (x : ℕ) : a < (2 : ℝ) ^ ((x : ℤ) - 125) ↔ f < x + 2 := by
  by_cases hx : x + 2 ≤ 254
  · have := h.2 (x + 2) (by omega) hx
    rw [show ((x + 2 : ℕ) : ℤ) - 127 = (x : ℤ) - 125 by push_cast; ring] at this
    rw [← not_le, this]
    omega
  · have h2 := h.1
    have := h.2 254 (by omega) le_rfl
    have h3 : a < (2 : ℝ) ^ (((254 : ℕ) : ℤ) - 127) := by
      rw [← not_le, this]; omega
    have h4 : (2 : ℝ) ^ (((254 : ℕ) : ℤ) - 127) ≤ (2 : ℝ) ^ ((x : ℤ) - 125) := zpow_le_zpow_right₀ (by norm_num) (by omega)
    exact ⟨fun _ => by omega, fun _ => lt_of_lt_of_le h3 h4⟩

theorem sgt_zero : ∀ x : Fin 256, IntOp.cmpi .sgt (BitVec.ofNat 32 x.val) 0#32 = BitVec.ofBool (decide (0 < x.val)) := by decide

/-- The kernel's count of the powers of two that `a` reaches is its field. -/
theorem count_eq (h : IsField a f) :
    Finset.univ.fold IntOp.addi (0#32) (fun x : Fin 256 => BitVec.setWidth 32
      (IntOp.andi (IntOp.cmpi CmpIPredicate.sgt (BitVec.ofNat 32 x.val) 0#32)
        (BitVec.ofBool (decide (Ideal.ofBits FTy.f32 (IntOp.shli ArithUnit.vector (BitVec.ofNat 32 x.val) 23#32) ≤ (a : EReal))))))
    = BitVec.ofNat 32 f := by
  rw [fold_addi_setWidth_eq_card (fun x : Fin 256 =>
      (IntOp.andi (IntOp.cmpi CmpIPredicate.sgt (BitVec.ofNat 32 x.val) 0#32)
        (BitVec.ofBool (decide (Ideal.ofBits FTy.f32 (IntOp.shli ArithUnit.vector (BitVec.ofNat 32 x.val) 23#32) ≤ (a : EReal))))))]
  congr 1
  have hp : ∀ x : Fin 256, (IntOp.andi (IntOp.cmpi CmpIPredicate.sgt (BitVec.ofNat 32 x.val) 0#32)
      (BitVec.ofBool (decide (Ideal.ofBits FTy.f32 (IntOp.shli ArithUnit.vector (BitVec.ofNat 32 x.val) 23#32) ≤ (a : EReal))))) = 1#1
      ↔ 1 ≤ x.val ∧ x.val ≤ f := by
    intro x
    rw [sgt_zero x]
    by_cases h0 : x.val = 0
    · simp [h0, IntOp.andi]
    · have hs : IntOp.shli ArithUnit.vector (BitVec.ofNat 32 x.val) 23#32 = BitVec.ofNat 32 x.val <<< 23 := rfl
      rw [hs]
      by_cases h255 : x.val = 255
      · have := h.1
        rw [h255, ofBits_pow_top]
        simp [IntOp.andi]
        omega
      · rw [ofBits_pow x.val (by omega) (by omega)]
        simp only [EReal.coe_le_coe_iff, h.2 x.val (by omega) (by omega)]
        have h1 : 0 < x.val := by omega
        by_cases hf : x.val ≤ f <;> simp [h1, hf, IntOp.andi] <;> omega
  rw [Finset.filter_congr (fun x _ => hp x)]
  have hinj : (Finset.univ.filter fun x : Fin 256 => 1 ≤ x.val ∧ x.val ≤ f).map Fin.valEmbedding = Finset.Icc 1 f := by
    ext k
    have := h.1
    simp only [Finset.mem_map, Finset.mem_filter, Finset.mem_univ, true_and, Fin.valEmbedding_apply, Finset.mem_Icc]
    constructor
    · rintro ⟨x, hx, rfl⟩; exact hx
    · intro hk; exact ⟨⟨k, by omega⟩, hk, rfl⟩
  rw [← Finset.card_map Fin.valEmbedding, hinj, Nat.card_Icc]
  omega

/-- The kernel's exponent word, from the field. -/
def kexp (w : BitVec 32) : BitVec 32 :=
  Scalar.select (IntOp.cmpi CmpIPredicate.eq w 0#32) (0#32) (IntOp.subi w 126#32)

theorem kexp_scale_word : ∀ f : Fin 254, IntOp.addi (kexp (BitVec.ofNat 32 f.val)) 127#32 = BitVec.ofNat 32 (if f.val = 0 then 127 else f.val + 1) := by
  decide

theorem kexp_inv_word : ∀ f : Fin 254, IntOp.subi 127#32 (kexp (BitVec.ofNat 32 f.val)) = BitVec.ofNat 32 (if f.val = 0 then 127 else 253 - f.val) := by
  decide

/-- The kernel's scale is two to the exponent. -/
theorem kscale_eq (hf : f ≤ 252) :
    Ideal.ofBits .f32 (IntOp.shli ArithUnit.vector (IntOp.addi (kexp (BitVec.ofNat 32 f)) 127#32) 23#32) = (((2 : ℝ) ^ expo f : ℝ) : EReal) := by
  rw [kexp_scale_word ⟨f, by omega⟩]
  show Ideal.ofBits .f32 (BitVec.ofNat 32 _ <<< 23) = _
  dsimp only
  rw [ofBits_pow _ (by split <;> omega) (by split <;> omega)]
  unfold expo
  split
  · norm_num
  · congr 2; push_cast; ring

/-- The number the kernel multiplies by to divide by the scale is two to minus the exponent. -/
theorem kinv_eq (hf : f ≤ 252) :
    Ideal.ofBits .f32 (IntOp.shli ArithUnit.vector (IntOp.subi 127#32 (kexp (BitVec.ofNat 32 f))) 23#32) = (((2 : ℝ) ^ (-expo f) : ℝ) : EReal) := by
  rw [kexp_inv_word ⟨f, by omega⟩]
  show Ideal.ofBits .f32 (BitVec.ofNat 32 _ <<< 23) = _
  dsimp only
  rw [ofBits_pow _ (by split <;> omega) (by split <;> omega)]
  unfold expo
  split
  · norm_num
  · congr 2; push_cast [Nat.cast_sub (show f ≤ 253 by omega)]; ring

/-- The reference's exponents: the number `x - 125` of each place `x`. -/
theorem sitofp_place (x : Fin 256) :
    (FloatOps.sitofp (F := Ideal) FTy.f32 (IntOp.subi (BitVec.ofNat 32 x.val) 125#32)) = ((((x.val : ℤ) - 125 : ℤ) : ℝ) : EReal) := by
  have h : ∀ x : Fin 256, (IntOp.subi (BitVec.ofNat 32 x.val) 125#32).toInt = (x.val : ℤ) - 125 := by decide
  show (((IntOp.subi (BitVec.ofNat 32 x.val) 125#32).toInt : ℝ) : EReal) = _
  rw [h x]

/-- Two to an integer exponent, as the reference's `exp2` computes it. -/
theorem exp2_int (n : ℤ) : FloatOps.exp2 (F := Ideal) (φ := .f32) (((n : ℤ) : ℝ) : EReal) = (((2 : ℝ) ^ n : ℝ) : EReal) := by
  show ((Real.rpow 2 (n : ℝ) : ℝ) : EReal) = _
  congr 1
  exact Real.rpow_intCast 2 n

/-- The reference's exponent is `expo` of the field. -/
theorem rexp_eq (h : IsField a f) :
    (if (a : EReal) < Ideal.ofBits FTy.f32 8388608#32 then (0 : EReal)
      else Finset.univ.fold min (Ideal.ofBits FTy.f32 2139095040#32) (fun x : Fin 256 =>
        if (a : EReal) < FloatOps.exp2 (F := Ideal) (φ := .f32) (FloatOps.sitofp (F := Ideal) FTy.f32 (IntOp.subi (BitVec.ofNat 32 x.val) 125#32))
        then FloatOps.sitofp (F := Ideal) FTy.f32 (IntOp.subi (BitVec.ofNat 32 x.val) 125#32)
        else Ideal.ofBits FTy.f32 2139095040#32)) = (((expo f : ℤ) : ℝ) : EReal) := by
  rw [ofBits_minNormal, ofBits_f32_top]
  have h1 := h.1
  by_cases hf : f = 0
  · rw [if_pos (EReal.coe_lt_coe_iff.2 (h.zero_iff.2 hf))]
    simp [expo, hf]
  · rw [if_neg (fun hh => hf (h.zero_iff.1 (EReal.coe_lt_coe_iff.1 hh)))]
    have hfun : (fun x : Fin 256 =>
        if (a : EReal) < FloatOps.exp2 (F := Ideal) (φ := .f32) (FloatOps.sitofp (F := Ideal) FTy.f32 (IntOp.subi (BitVec.ofNat 32 x.val) 125#32))
        then FloatOps.sitofp (F := Ideal) FTy.f32 (IntOp.subi (BitVec.ofNat 32 x.val) 125#32)
        else (⊤ : EReal)) = fun x : Fin 256 => if f < x.val + 2 then ((((x.val : ℤ) - 125 : ℤ) : ℝ) : EReal) else ⊤ := by
      funext x
      rw [sitofp_place, exp2_int]
      simp only [EReal.coe_lt_coe_iff, h.lt_iff]
    rw [hfun]
    apply le_antisymm
    · refine (Finset.fold_min_le _).2 (Or.inr ⟨⟨f - 1, by omega⟩, Finset.mem_univ _, ?_⟩)
      rw [if_pos (by show f < f - 1 + 2; omega), EReal.coe_le_coe_iff]
      unfold expo
      rw [if_neg hf]
      exact Int.cast_le.2 (by show (((f - 1 : ℕ) : ℤ) - 125) ≤ _; omega)
    · refine (Finset.le_fold_min _).2 ⟨le_top, fun x _ => ?_⟩
      split
      · rw [EReal.coe_le_coe_iff]
        unfold expo
        rw [if_neg hf]
        exact Int.cast_le.2 (by omega)
      · exact le_top

end Cert.Proof
end
-- ==== Proof.Decode.lean ====
/-
  The weights. A byte holds two four-bit floats and each group of 32 rows has a byte of scale. The kernel moves a nibble's
  sign and magnitude to their places in an eight-bit float and multiplies by 64; the reference tests the nibble's bits.
-/
module

public import proofs.«01_k».proof.Proof.Exponent

@[expose] public section
noncomputable section

namespace Cert.Proof
open Idealize.ShloMosaic

/-- The eight-bit float the kernel makes of a byte's low nibble. -/
def lowCode (b : BitVec 8) : BitVec 8 := ((b &&& 8#8) <<< 4) ||| ((b &&& 7#8) <<< 2)

/-- The eight-bit float the kernel makes of a byte's high nibble. -/
def highCode (b : BitVec 8) : BitVec 8 := (b &&& 128#8) ||| ((b >>> 2) &&& 28#8)

/-- The reference's test of the bits of `n` under the mask `k`. -/
def bit (n k : BitVec 32) : BitVec 1 := IntOp.cmpi .ne (IntOp.andi n k) 0#32

/-- The reference's magnitude of a nibble, from its three low bits. -/
def mag (n : BitVec 32) : EReal :=
  Scalar.select (bit n 4#32)
    (Scalar.select (bit n 2#32) (Scalar.select (bit n 1#32) (Ideal.ofBits .bf16 16576#16) (Ideal.ofBits .bf16 16512#16))
      (Scalar.select (bit n 1#32) (Ideal.ofBits .bf16 16448#16) (Ideal.ofBits .bf16 16384#16)))
    (Scalar.select (bit n 2#32) (Scalar.select (bit n 1#32) (Ideal.ofBits .bf16 16320#16) (Ideal.ofBits .bf16 16256#16))
      (Scalar.select (bit n 1#32) (Ideal.ofBits .bf16 16128#16) 0))

/-- The reference's reading of a nibble as a four-bit float. -/
def nib (n : BitVec 32) : EReal := Scalar.select (bit n 8#32) (0 - mag n) (mag n)

/-- A positive normal bfloat16. -/
theorem bf16_val (b : BitVec 16) (e m : ℕ) (hneg : b.extractLsb' 15 1 = 0#1) (hex : (b.extractLsb' 7 8).toNat = e)
    (hfr : (b.extractLsb' 0 7).toNat = m) (h1 : 1 ≤ e) (h2 : e ≤ 254) :
    Ideal.ofBits .bf16 b = (((128 + m : ℝ) * (2 : ℝ) ^ ((e : ℤ) - 134) : ℝ) : EReal) := by
  show Ideal.ieee 8 7 b = _
  unfold Ideal.ieee
  dsimp only [Nat.reduceAdd]
  rw [hneg, hex, hfr, if_neg (by omega), if_neg (by omega)]
  congr 1
  norm_num [sub_sub]

theorem bf16_half : Ideal.ofBits .bf16 16128#16 = ((1 / 2 : ℝ) : EReal) := by
  rw [bf16_val _ 126 0 (by decide) (by decide) (by decide) (by decide) (by decide)]; norm_num
theorem bf16_one : Ideal.ofBits .bf16 16256#16 = ((1 : ℝ) : EReal) := by
  rw [bf16_val _ 127 0 (by decide) (by decide) (by decide) (by decide) (by decide)]; norm_num
theorem bf16_one_half : Ideal.ofBits .bf16 16320#16 = ((3 / 2 : ℝ) : EReal) := by
  rw [bf16_val _ 127 64 (by decide) (by decide) (by decide) (by decide) (by decide)]; norm_num
theorem bf16_two : Ideal.ofBits .bf16 16384#16 = ((2 : ℝ) : EReal) := by
  rw [bf16_val _ 128 0 (by decide) (by decide) (by decide) (by decide) (by decide)]; norm_num
theorem bf16_three : Ideal.ofBits .bf16 16448#16 = ((3 : ℝ) : EReal) := by
  rw [bf16_val _ 128 64 (by decide) (by decide) (by decide) (by decide) (by decide)]; norm_num
theorem bf16_four : Ideal.ofBits .bf16 16512#16 = ((4 : ℝ) : EReal) := by
  rw [bf16_val _ 129 0 (by decide) (by decide) (by decide) (by decide) (by decide)]; norm_num
theorem bf16_six : Ideal.ofBits .bf16 16576#16 = ((6 : ℝ) : EReal) := by
  rw [bf16_val _ 129 64 (by decide) (by decide) (by decide) (by decide) (by decide)]; norm_num

/-- The eight-bit float with the sign and magnitude of the nibble `c`, 64 times smaller than its four-bit float. -/
def code (c : Fin 16) : BitVec 8 := BitVec.ofNat 8 (c.val / 8 * 128 + c.val % 8 * 4)

theorem code_eq (c : Fin 16) : Ideal.ofBits .fp8e4m3 (code c) * Ideal.ofBits .f32 1115684864#32 = nib (BitVec.ofNat 32 c.val) := by
  rw [ofBits_64]
  show Ideal.e4m3fn (code c) * _ = _
  have hz : (0 : EReal) = ((0 : ℝ) : EReal) := rfl
  simp only [nib, mag, bf16_half, bf16_one, bf16_one_half, bf16_two, bf16_three, bf16_four, bf16_six, hz, ← EReal.coe_sub]
  fin_cases c
  all_goals
    simp [code, bit, Scalar.select, IntOp.cmpi, IntOp.andi, Ideal.e4m3fn]
  all_goals
    rw [← EReal.coe_mul, ← EReal.coe_mul]
    norm_num

theorem lowCode_eq : ∀ b : BitVec 8, ∃ c : Fin 16, lowCode b = code c ∧ IntOp.andi (BitVec.setWidth 32 b) 15#32 = BitVec.ofNat 32 c.val := by
  decide

theorem highCode_eq : ∀ b : BitVec 8, ∃ c : Fin 16, highCode b = code c ∧ IntOp.shrsi ArithUnit.vector (BitVec.setWidth 32 b) 4#32 = BitVec.ofNat 32 c.val := by
  decide

/-- The kernel's low nibble is the reference's. -/
theorem low_eq (b : BitVec 8) :
    Ideal.ofBits .fp8e4m3 (lowCode b) * Ideal.ofBits .f32 1115684864#32 = nib (IntOp.andi (BitVec.setWidth 32 b) 15#32) := by
  obtain ⟨c, h1, h2⟩ := lowCode_eq b
  rw [h1, h2, code_eq]

/-- The kernel's high nibble is the reference's. -/
theorem high_eq (b : BitVec 8) :
    Ideal.ofBits .fp8e4m3 (highCode b) * Ideal.ofBits .f32 1115684864#32 = nib (IntOp.shrsi ArithUnit.vector (BitVec.setWidth 32 b) 4#32) := by
  obtain ⟨c, h1, h2⟩ := highCode_eq b
  rw [h1, h2, code_eq]

/-- The reference's reading of a byte of scale. -/
def rscale (s : BitVec 8) : EReal :=
  Scalar.select (IntOp.cmpi .eq (BitVec.setWidth 32 s) 0#32) 0
    (Scalar.select (IntOp.cmpi .eq (BitVec.setWidth 32 s) 255#32) (Ideal.ofBits .f32 2139095040#32)
      (FloatOps.exp2 (F := Ideal) (φ := .f32) (FloatOps.sitofp (F := Ideal) .f32 (IntOp.subi (BitVec.setWidth 32 s) 127#32))))

/-- The kernel puts the byte in the exponent field of a float32: the same number. -/
theorem scale_eq (s : BitVec 8) :
    Ideal.ofBits .f32 (IntOp.shli ArithUnit.vector (BitVec.setWidth 32 s) 23#32) = rscale s := by
  have hw : BitVec.setWidth 32 s = BitVec.ofNat 32 s.toNat := by
    apply BitVec.eq_of_toNat_eq
    have := s.isLt
    simp
  have h8 := s.isLt
  show Ideal.ofBits .f32 (BitVec.setWidth 32 s <<< 23) = _
  unfold rscale
  rw [hw]
  by_cases h0 : s.toNat = 0
  · rw [h0, ofBits_pow_zero]; simp [Scalar.select, IntOp.cmpi]
  by_cases h1 : s.toNat = 255
  · rw [h1, ofBits_pow_top, ofBits_f32_top]; simp [Scalar.select, IntOp.cmpi]
  have c0 : IntOp.cmpi .eq (BitVec.ofNat 32 s.toNat) 0#32 = 0#1 := by
    have : ∀ k : Fin 256, k.val ≠ 0 → IntOp.cmpi .eq (BitVec.ofNat 32 k.val) 0#32 = 0#1 := by decide
    exact this ⟨s.toNat, h8⟩ h0
  have c1 : IntOp.cmpi .eq (BitVec.ofNat 32 s.toNat) 255#32 = 0#1 := by
    have : ∀ k : Fin 256, k.val ≠ 255 → IntOp.cmpi .eq (BitVec.ofNat 32 k.val) 255#32 = 0#1 := by decide
    exact this ⟨s.toNat, h8⟩ h1
  have hn : (FloatOps.sitofp (F := Ideal) .f32 (IntOp.subi (BitVec.ofNat 32 s.toNat) 127#32)) = ((((s.toNat : ℤ) - 127 : ℤ) : ℝ) : EReal) := by
    have : ∀ k : Fin 256, (IntOp.subi (BitVec.ofNat 32 k.val) 127#32).toInt = (k.val : ℤ) - 127 := by decide
    show (((IntOp.subi (BitVec.ofNat 32 s.toNat) 127#32).toInt : ℝ) : EReal) = _
    rw [this ⟨s.toNat, h8⟩]
  rw [c0, c1, hn, exp2_int, ofBits_pow _ (by omega) (by omega)]
  rfl

end Cert.Proof
end
-- ==== Proof.Bytes.lean ====
/-
  Four bytes of a column read as one word, changed, and read as four bytes again: each byte of the result is the change
  of the byte that stood there.
-/
module

public import proofs.«01_k».proof.Proof.Decode
public import Idealize.ShloMosaic.Lib.BitcastFour
public import Idealize.ShloMosaic.Lib.Pointwise

@[expose] public section
noncomputable section

namespace Cert.Proof
open Idealize.ShloMosaic

/-- The source of a byte of a column of words: row `r / 4`. -/
theorem bitcast_32_8_getLsbD {R n w : Nat} (x : (⟨2, ![w, n]⟩ : Shape).Idx → BitVec 32)
    (h : (⟨2, ![w, n]⟩ : Shape).Bitcasts 32 ⟨2, ![R, n]⟩ 8) (r : Fin R) (l : Fin n) (q : Nat) (hq : q < 8) (p : Fin w)
    (hp : p.val = r.val / 4) :
    (bitcast ⟨2, ![R, n]⟩ 8 x h (ix2 r l)).getLsbD q = (x (ix2 p l)).getLsbD (8 * (r.val % 4) + q) := by
  rw [bitcast_getLsbD x h _ q hq (by decide)]
  have e2 : ((⟨2, ![R, n]⟩ : Shape).row (ix2 r l) * 8 + q) % 32 = 8 * (r.val % 4) + q := by
    show (r.val * 8 + q) % 32 = _
    omega
  rw [e2]
  congr 2
  funext c
  match c with
  | ⟨0, _⟩ => exact Fin.ext ((h.srcIdx_row _ _ _ ⟨0, Nat.zero_lt_two⟩ rfl).trans (by show (r.val * 8 + q) / 32 = p.val; rw [hp]; omega))
  | ⟨1, _⟩ => exact Fin.ext (h.srcIdx_other _ _ _ ⟨1, Nat.one_lt_two⟩ (by show ¬ 1 + 2 = 2; omega))

/-- Words of four bytes changed by `f`, which changes each byte by `g`, and read as bytes. -/
theorem bytes_apply {R n w : Nat} (f : BitVec 32 → BitVec 32) (g : BitVec 8 → BitVec 8)
    (hf : ∀ (x : BitVec 32) (q : Fin 4), (f x).extractLsb' (8 * q.val) 8 = g (x.extractLsb' (8 * q.val) 8))
    (X : (⟨2, ![R, n]⟩ : Shape).Idx → BitVec 8) (h : (⟨2, ![R, n]⟩ : Shape).Bitcasts 8 ⟨2, ![w, n]⟩ 32)
    (h' : (⟨2, ![w, n]⟩ : Shape).Bitcasts 32 ⟨2, ![R, n]⟩ 8) (hw : 4 * w = R) (r : Fin R) (l : Fin n) :
    bitcast ⟨2, ![R, n]⟩ 8 (fun i => f (bitcast ⟨2, ![w, n]⟩ 32 X h i)) h' (ix2 r l) = g (X (ix2 r l)) := by
  have hr := r.isLt
  have hx : (bitcast ⟨2, ![w, n]⟩ 32 X h (ix2 (⟨r.val / 4, by omega⟩ : Fin w) l)).extractLsb' (8 * (r.val % 4)) 8 = X (ix2 r l) := by
    apply BitVec.eq_of_getLsbD_eq
    intro i hi
    rw [BitVec.getLsbD_extractLsb', decide_eq_true hi, Bool.true_and]
    rw [ix2_eq_valueIdx, bitcast_8_32_getLsbD_ix2 X h _ l (8 * (r.val % 4) + i) (by omega) r (by dsimp only; omega), ← ix2_eq_valueIdx]
    congr 1
    omega
  apply BitVec.eq_of_getLsbD_eq
  intro i hi
  rw [bitcast_32_8_getLsbD _ h' r l i hi (⟨r.val / 4, by omega⟩ : Fin w) rfl, ← hx, ← hf _ ⟨r.val % 4, by omega⟩,
    BitVec.getLsbD_extractLsb', decide_eq_true hi, Bool.true_and]

/-- The kernel's change of a word for the low nibbles changes each byte to its low code. -/
theorem low_word (x : BitVec 32) (q : Fin 4) :
    (((x &&& 134744072#32) <<< 4) ||| ((x &&& 117901063#32) <<< 2)).extractLsb' (8 * q.val) 8 = lowCode (x.extractLsb' (8 * q.val) 8) := by
  unfold lowCode
  apply BitVec.eq_of_getLsbD_eq
  intro i hi
  fin_cases q <;> (have hi' := hi; interval_cases i) <;> simp

/-- The kernel's change of a word for the high nibbles changes each byte to its high code. -/
theorem high_word (x : BitVec 32) (q : Fin 4) :
    ((x &&& 2155905152#32) ||| ((x >>> 2) &&& 471604252#32)).extractLsb' (8 * q.val) 8 = highCode (x.extractLsb' (8 * q.val) 8) := by
  unfold highCode
  apply BitVec.eq_of_getLsbD_eq
  intro i hi
  fin_cases q <;> (have hi' := hi; interval_cases i) <;> simp

end Cert.Proof
end
-- ==== Proof.Row.lean ====
/-
  One row of activations: its scale and the number its entries are multiplied by, as the kernel computes them and as the
  reference does, and their equality when every entry of the row is finite.
-/
module

public import proofs.«01_k».proof.Proof.Exponent

@[expose] public section
noncomputable section

namespace Cert.Proof
open Idealize.ShloMosaic

/-- The row's largest magnitude, times the constant. -/
def rowTop (x : Fin 3584 → EReal) : EReal :=
  Finset.univ.fold max ⊥ (fun k => FloatOps.absf (F := Ideal) (φ := .f32) (x k)) * Ideal.ofBits .f32 991054117#32

/-- The kernel's count: how many powers of two `t` reaches. -/
def kfield (t : EReal) : BitVec 32 :=
  Finset.univ.fold IntOp.addi (0#32) fun x : Fin 256 => BitVec.setWidth 32
    (IntOp.andi (IntOp.cmpi CmpIPredicate.sgt (BitVec.ofNat 32 x.val) 0#32)
      (BitVec.ofBool (decide (Ideal.ofBits FTy.f32 (IntOp.shli ArithUnit.vector (BitVec.ofNat 32 x.val) 23#32) ≤ t))))

/-- The kernel's scale. -/
def kscale (t : EReal) : EReal := Ideal.ofBits .f32 (IntOp.shli ArithUnit.vector (IntOp.addi (kexp (kfield t)) 127#32) 23#32)

/-- The kernel's multiplier. -/
def kinv (t : EReal) : EReal := Ideal.ofBits .f32 (IntOp.shli ArithUnit.vector (IntOp.subi 127#32 (kexp (kfield t))) 23#32)

/-- The reference's least exponent whose power of two is above `t`. -/
def rleast (t : EReal) : EReal :=
  Finset.univ.fold min (Ideal.ofBits FTy.f32 2139095040#32) fun x : Fin 256 =>
    if t < FloatOps.exp2 (F := Ideal) (φ := .f32) (FloatOps.sitofp (F := Ideal) FTy.f32 (IntOp.subi (BitVec.ofNat 32 x.val) 125#32))
    then FloatOps.sitofp (F := Ideal) FTy.f32 (IntOp.subi (BitVec.ofNat 32 x.val) 125#32)
    else Ideal.ofBits FTy.f32 2139095040#32

/-- The reference's exponent: zero for a `t` below the smallest normal number. -/
def rexp (t : EReal) : EReal := if t < Ideal.ofBits FTy.f32 8388608#32 then 0 else rleast t

/-- A row is finite: no entry's magnitude is above the largest finite bfloat16. -/
def FiniteRow (x : Fin 3584 → EReal) : Prop := ∀ k, FloatOps.absf (F := Ideal) (φ := .f32) (x k) ≤ Ideal.ofBits .bf16 32639#16

theorem absf_nonneg (x : EReal) : 0 ≤ FloatOps.absf (F := Ideal) (φ := .f32) x := by
  show 0 ≤ max x (-x)
  rcases le_total 0 x with h | h
  · exact le_max_of_le_left h
  · exact le_max_of_le_right (EReal.neg_le_neg_iff.1 (by simpa using h))

/-- The scaled largest magnitude of a finite row is a real number from zero to below `2 ^ 126`. -/
theorem rowTop_real {x : Fin 3584 → EReal} (h : FiniteRow x) : ∃ a : ℝ, rowTop x = (a : EReal) ∧ 0 ≤ a ∧ a < (2 : ℝ) ^ (126 : ℤ) := by
  unfold rowTop
  have hlo : (0 : EReal) ≤ Finset.univ.fold max ⊥ (fun k => FloatOps.absf (F := Ideal) (φ := .f32) (x k)) :=
    (Finset.le_fold_max _).2 (Or.inr ⟨0, Finset.mem_univ _, absf_nonneg _⟩)
  have hhi : Finset.univ.fold max ⊥ (fun k => FloatOps.absf (F := Ideal) (φ := .f32) (x k)) ≤ (((255 : ℝ) * 2 ^ (120 : ℤ) : ℝ) : EReal) :=
    (Finset.fold_max_le _).2 ⟨bot_le, fun k _ => ofBits_bfmax ▸ h k⟩
  generalize Finset.univ.fold max ⊥ (fun k => FloatOps.absf (F := Ideal) (φ := .f32) (x k)) = M at hlo hhi
  change EReal at M
  induction M using EReal.rec with
  | bot => exact absurd hlo (by simp)
  | top => exact absurd (top_le_iff.1 hhi) (EReal.coe_ne_top _)
  | coe m =>
    rw [EReal.coe_le_coe_iff] at hhi
    have hlo' : 0 ≤ m := by exact_mod_cast hlo
    refine ⟨m * (9586981 * 2 ^ (-32 : ℤ)), by rw [ofBits_c, ← EReal.coe_mul], by positivity, ?_⟩
    calc m * (9586981 * 2 ^ (-32 : ℤ)) ≤ (255 * 2 ^ (120 : ℤ)) * (9586981 * 2 ^ (-32 : ℤ)) := by gcongr
      _ < 2 ^ (126 : ℤ) := by norm_num

/-- On a finite row the kernel's scale is the reference's: two to the exponent. -/
theorem scale_row {x : Fin 3584 → EReal} (h : FiniteRow x) :
    kscale (rowTop x) = FloatOps.exp2 (F := Ideal) (φ := .f32) (rexp (rowTop x)) := by
  obtain ⟨a, ha, h0, h1⟩ := rowTop_real h
  obtain ⟨f, hf⟩ := exists_field a h0 h1
  rw [ha, kscale, kfield, count_eq hf, kscale_eq hf.1, rexp, rleast, rexp_eq hf, exp2_int]

/-- On a finite row the kernel's multiplier is the reference's: two to minus the exponent. -/
theorem inv_row {x : Fin 3584 → EReal} (h : FiniteRow x) :
    kinv (rowTop x) = FloatOps.exp2 (F := Ideal) (φ := .f32) (0 - rexp (rowTop x)) := by
  obtain ⟨a, ha, h0, h1⟩ := rowTop_real h
  obtain ⟨f, hf⟩ := exists_field a h0 h1
  rw [ha, kinv, kfield, count_eq hf, kinv_eq hf.1, rexp, rleast, rexp_eq hf,
    show (0 : EReal) - (((expo f : ℤ) : ℝ) : EReal) = (((-expo f : ℤ) : ℝ) : EReal) by
      rw [zero_sub, ← EReal.coe_neg, ← Int.cast_neg], exp2_int]

end Cert.Proof
end
-- ==== Proof.KernelBlock.lean ====
/-
  What the kernel computes on one tile of activations, entry by entry, and on one 32-row slice of the weights.
-/
module

public import proofs.«01_k».proof.Proof.Gen.KernelIdeal.Value
public import proofs.«01_k».proof.Proof.Bytes
public import proofs.«01_k».proof.Proof.Row

@[expose] public section
set_option maxRecDepth 16384
noncomputable section

namespace Cert.KernelIdeal.Block
open Idealize.ShloMosaic Idealize.ShloMosaic.TcCoe Idealize.SL.Sem
open Cert.KernelIdeal Cert.KernelIdeal.Gen Cert.Proof

/-- The largest magnitude of each row. -/
def top (X : Vec Ideal S512x3584 .bf16) : FVec Ideal S512 .bf16 :=
  multiReduction .maximumf [1] S512 (absf (k0_pay8 X)) 0xFF80#16 reduces_S512x3584_S512 (.inr rfl) rfl

/-- Each row's largest magnitude times the constant. -/
def scaled (M : FVec Ideal S512 .bf16) : FVec Ideal S512x1 .f32 :=
  mulf (extf .f32 (shapeCast S512x1 M shapeCasts_S512_S512x1) bitsLt_bf16_f32) (broadcast S512x1 (Scalar.ofBits .f32 0x3B124925#32))

/-- Which powers of two each row's number reaches. -/
def reached (T : FVec Ideal S512x1 .f32) : IVec S512x256 32 :=
  extui 32 (andi
    (broadcastTo S512x256 (cmpi .sgt (iota .tc S1x256 32 [1] iota_S1x256_d1_w32) (broadcast S1x256 0#32)) broadcasts_S1x256_S512x256)
    (cmpf .oge (broadcastTo S512x256 T broadcasts_S512x1_S512x256)
      (broadcastTo S512x256 (bitcastToFloat .f32 (shli (iota .tc S1x256 32 [1] iota_S1x256_d1_w32) (broadcast S1x256 23#32)))
        broadcasts_S1x256_S512x256))) natLt_1_32

/-- How many. -/
def count (R : IVec S512x256 32) : IVec S512 32 :=
  multiReductionI .add [1] S512 R 0#32 reduces_S512x256_S512 rfl

/-- The exponents, from the counts. -/
def expn (C : IVec S512 32) : IVec S512x1 32 :=
  select (cmpi .eq (shapeCast S512x1 C shapeCasts_S512_S512x1) (broadcast S512x1 0#32)) (broadcast S512x1 0#32)
    (subi (shapeCast S512x1 C shapeCasts_S512_S512x1) (broadcast S512x1 126#32))

theorem pay9_eq (X : Vec Ideal S512x3584 .bf16) : k0_pay9 X = expn (count (reached (scaled (top X)))) := rfl

theorem pay8_apply (X : Vec Ideal S512x3584 .bf16) (r : Fin 512) (k : Fin 3584) : k0_pay8 X (ix2 r k) = X (ix2 r k) := by
  pointwise [k0_pay8]

theorem top_apply (X : Vec Ideal S512x3584 .bf16) (r : Fin 512) :
    top X (ix1 r) = Finset.univ.fold max ⊥ fun k : Fin 3584 => FloatOps.absf (F := Ideal) (φ := .f32) (X (ix2 r k)) := by
  have h : top X (ix1 r) = Finset.univ.fold max (Ideal.ofBits .bf16 0xFF80#16) fun k => absf (k0_pay8 X) (ix2 r k) :=
    (multiReduction_maximumf_eq_fold _ _ reduces_S512x3584_S512 _ _ _).trans (Shape.Reduces.fold_fiber_r2_a1 _ _ _ _ _)
  rw [h, show Ideal.ofBits .bf16 0xFF80#16 = ⊥ from ofBits_bf16_bot]
  refine Finset.fold_congr fun k _ => ?_
  show FloatOps.absf (F := Ideal) (φ := .bf16) (k0_pay8 X (ix2 r k)) = _
  rw [pay8_apply]
  rfl

theorem scaled_apply (M : FVec Ideal S512 .bf16) (r : Fin 512) : scaled M (ix2 r 0) = M (ix1 r) * Ideal.ofBits .f32 991054117#32 := by
  pointwise [scaled]

theorem reached_apply (T : FVec Ideal S512x1 .f32) (r : Fin 512) (x : Fin 256) :
    reached T (ix2 r x) = BitVec.setWidth 32
    (IntOp.andi (IntOp.cmpi CmpIPredicate.sgt (BitVec.ofNat 32 x.val) 0#32)
      (BitVec.ofBool (decide (Ideal.ofBits FTy.f32 (IntOp.shli ArithUnit.vector (BitVec.ofNat 32 x.val) 23#32) ≤ T (ix2 r 0))))) := by
  pointwise [reached]

theorem count_apply (R : IVec S512x256 32) (r : Fin 512) : count R (ix1 r) = Finset.univ.fold IntOp.addi 0#32 fun x : Fin 256 => R (ix2 r x) :=
  (multiReductionI_eq_fold .add R _ reduces_S512x256_S512 _ _).trans (Shape.Reduces.fold_fiber_r2_a1 _ _ _ _ _)

theorem expn_apply (C : IVec S512 32) (r : Fin 512) : expn C (ix2 r 0) = kexp (C (ix1 r)) := by
  pointwise [expn, kexp]

/-- The exponent word of row `r`. -/
theorem pay9_apply (X : Vec Ideal S512x3584 .bf16) (r : Fin 512) :
    k0_pay9 X (ix2 r 0) = kexp (kfield (rowTop fun k => X (ix2 r k))) := by
  rw [pay9_eq, expn_apply, count_apply]
  simp only [reached_apply, scaled_apply, top_apply]
  rfl

/-- The scale of row `r`. -/
theorem pay10_apply (X : Vec Ideal S512x3584 .bf16) (r : Fin 512) :
    k0_pay10 X (ix2 r 0) = kscale (rowTop fun k => X (ix2 r k)) := by
  pointwise [k0_pay10]
  rw [pay9_apply]
  rfl

/-- The multiplier of row `r`. -/
theorem pay11_apply (X : Vec Ideal S512x3584 .bf16) (r : Fin 512) :
    k0_pay11 X (ix2 r 0) = kinv (rowTop fun k => X (ix2 r k)) := by
  pointwise [k0_pay11]
  rw [pay9_apply]
  rfl

/-- A code: the entry times its row's multiplier, clipped to the range of the eight-bit format. -/
theorem codes_apply (X : Vec Ideal S512x3584 .bf16) (r : Fin 512) (k : Fin 3584) :
    k0_pay1 (k0_pay8 X) (k0_pay11 X) (ix2 r k)
      = min (Ideal.ofBits .f32 1138753536#32) (max (Ideal.ofBits .f32 3286237184#32) (X (ix2 r k) * kinv (rowTop fun k => X (ix2 r k)))) := by
  rw [← pay11_apply]
  pointwise [k0_pay1, k0_pay8]

/-- An entry of the product: the sum over the row of code times scale times weight. -/
theorem product_apply (X : Vec Ideal S512x3584 .bf16) (W : Vec Ideal S3584x1920 .bf16) (r : Fin 512) (c : Fin 1920) :
    k0_pay2 (k0_pay8 X) (k0_pay10 X) (k0_pay11 X) W (ix2 r c)
      = ∑ k, k0_pay1 (k0_pay8 X) (k0_pay11 X) (ix2 r k) * kscale (rowTop fun k => X (ix2 r k)) * W (ix2 k c) := by
  rw [← pay10_apply]
  pointwise [k0_pay2]

/-- A low-nibble weight of a slice. -/
theorem low_apply (P : Vec Ideal S32x960 .i8) (s : Vec Ideal S1x1920 .f32) (r : Fin 32) (k : Fin 960) :
    k0_pay4 P s (ix2 r k) = nib (IntOp.andi (BitVec.setWidth 32 (P (ix2 r k))) 15#32) * s (ix2 0 ⟨k.val, by omega⟩) := by
  rw [← low_eq, ← bytes_apply (fun x => (((x &&& 134744072#32) <<< 4) ||| ((x &&& 117901063#32) <<< 2))) lowCode low_word P
    bitcasts_S32x960_w8_S8x960_w32 bitcasts_S8x960_w32_S32x960_w8 (by decide) r k]
  pointwise [k0_pay4, k0_pay3]
  rfl

/-- A high-nibble weight of a slice. -/
theorem high_apply (P : Vec Ideal S32x960 .i8) (s : Vec Ideal S1x1920 .f32) (r : Fin 32) (k : Fin 960) :
    k0_pay7 (k0_pay5 P s) (ix2 r k)
      = nib (IntOp.shrsi ArithUnit.vector (BitVec.setWidth 32 (P (ix2 r k))) 4#32) * s (ix2 0 ⟨960 + k.val, by omega⟩) := by
  rw [← high_eq, ← bytes_apply (fun x => ((x &&& 2155905152#32) ||| ((x >>> 2) &&& 471604252#32))) highCode high_word P
    bitcasts_S32x960_w8_S8x960_w32 bitcasts_S8x960_w32_S32x960_w8 (by decide) r k]
  pointwise [k0_pay7, k0_pay5, k0_pay3]
  rfl

/-- A scale of the weights. -/
theorem scales_apply (S : Vec Ideal S112x1920 .i8) (g : Fin 112) (c : Fin 1920) : k0_pay6 S (ix2 g c) = rscale (S (ix2 g c)) := by
  rw [← scale_eq]
  pointwise [k0_pay6]

end Cert.KernelIdeal.Block
end
-- ==== Proof.KernelScratch.lean ====
/-
  What the kernel's first point leaves in the weight scratch: the loop stores a slab of 32 rows per trip, its low
  nibbles in the first 960 columns and its high nibbles in the last 960, each times its scale.
-/
module

public import proofs.«01_k».proof.Proof.KernelBlock
public import Idealize.ShloMosaic.Lib.Pipeline.ValueKit

@[expose] public section
set_option maxRecDepth 16384
noncomputable section

namespace Cert.KernelIdeal.Block
open Idealize.ShloMosaic Idealize.ShloMosaic.TcCoe Idealize.SL.Sem
open Cert.KernelIdeal Cert.KernelIdeal.Gen Cert.Proof

/-- The weight matrix of packed nibbles `P` and group scales `S`: column `c < 960` takes byte `c`'s low nibble, column
    `960 + c` its high nibble, each times the scale of its column and group of 32 rows. -/
def Wt (P : Vec Ideal S3584x960 .i8) (S : FVec Ideal S112x1920 .f32) : FVec Ideal S3584x1920 .bf16 := fun i =>
  (if h : (i 1).val < 960 then nib (IntOp.andi (BitVec.setWidth 32 (P (ix2 (i 0) ⟨(i 1).val, h⟩))) 15#32)
    else nib (IntOp.shrsi .vector (BitVec.setWidth 32 (P (ix2 (i 0) ⟨(i 1).val - 960, by have := (i 1).isLt; simp at this; omega⟩))) 4#32))
    * S (ix2 ⟨(i 0).val / 32, by have := (i 0).isLt; simp at this; omega⟩ (i 1))

/-- The weight matrix in the columns of the low nibbles. -/
theorem Wt_low (P : Vec Ideal S3584x960 .i8) (S : FVec Ideal S112x1920 .f32) (r : Fin 3584) (c : Fin 1920) (h : c.val < 960) :
    Wt P S (ix2 r c) = nib (IntOp.andi (BitVec.setWidth 32 (P (ix2 r ⟨c.val, h⟩))) 15#32) * S (ix2 ⟨r.val / 32, by omega⟩ c) :=
  congrArg (· * S (ix2 ⟨r.val / 32, by omega⟩ c)) (dif_pos h)

/-- The weight matrix in the columns of the high nibbles. -/
theorem Wt_high (P : Vec Ideal S3584x960 .i8) (S : FVec Ideal S112x1920 .f32) (r : Fin 3584) (c : Fin 1920) (h : ¬ c.val < 960) :
    Wt P S (ix2 r c) = nib (IntOp.shrsi .vector (BitVec.setWidth 32 (P (ix2 r ⟨c.val - 960, by omega⟩))) 4#32)
      * S (ix2 ⟨r.val / 32, by omega⟩ c) :=
  congrArg (· * S (ix2 ⟨r.val / 32, by omega⟩ c)) (dif_neg h)

theorem off1_eq : ∀ k : Fin k0_t1_loop.trips, k0_off1 k = ![32 * k.val, 0] := by decide +kernel
theorem off2_eq : ∀ k : Fin k0_t1_loop.trips, k0_off2 k = ![k.val, 0] := by decide +kernel
theorem off3_eq : ∀ k : Fin k0_t1_loop.trips, k0_off3 k = ![32 * k.val, 0] := by decide +kernel
theorem off4_eq : ∀ k : Fin k0_t1_loop.trips, k0_off4 k = ![32 * k.val, 960] := by decide +kernel
theorem trips_eq : k0_t1_loop.trips = 112 := by decide +kernel

/-- The place of an index of a rectangle in the array. -/
theorem unit_at {R C A B : ℕ} (off : Fin 2 → ℕ) (inb : ∀ a, off a + (![A, B] : Fin 2 → ℕ) a ≤ (⟨2, ![R, C]⟩ : Shape).size a) (a b : ℕ)
    (h : off = ![a, b]) (r : Fin A) (e : Fin B) (i : Fin R) (j : Fin C) (hi : i.val = a + r.val) (hj : j.val = b + e.val) :
    (Rect.unit (s := ⟨2, ![R, C]⟩) off ![A, B] inb).idx (ix2 r e) = ix2 i j := by
  subst h
  funext x
  match x with
  | 0 => exact Fin.ext ((Rect.idx_unit_val ..).trans hi.symm)
  | 1 => exact Fin.ext ((Rect.idx_unit_val ..).trans hj.symm)

section
variable (c : Dev nD) (i : grid0.Coords) (arg1 : Memref sig .tc .vmem S512x3584 .bf16) (harg1 : arg1.IsWhole)
  (arg2 : Memref sig .tc .vmem S3584x960 .i8) (harg2 : arg2.IsWhole) (arg3 : Memref sig .tc .vmem S112x1920 .i8) (harg3 : arg3.IsWhole)
  (arg4 : Memref sig .tc .vmem S512x1920 .bf16) (harg4 : arg4.IsWhole) (arg5 : Memref sig .tc .vmem S512x3584 .fp8e4m3) (harg5 : arg5.IsWhole)
  (arg6 : Memref sig .tc .vmem S512x1 .f32) (harg6 : arg6.IsWhole) (arg7 : Memref sig .tc .vmem S112x1920 .f32) (harg7 : arg7.IsWhole)
  (arg8 : Memref sig .tc .vmem S3584x1920 .bf16) (harg8 : arg8.IsWhole) (h1 : k0_cond1 i = 1#1)
  (X2 : BufTy.Contents (Elt Ideal) arg2.view.ty) (X7 : BufTy.Contents (Elt Ideal) arg7.view.ty)

/-- A trip stores two slabs, each the weight matrix at its place. -/
theorem trip_pieces (k : Fin k0_t1_loop.trips) :
    ∀ p ∈ tripL_k0_t1 (F := Ideal) Variants.none c none i arg1 harg1 arg2 harg2 arg3 harg3 arg4 harg4 arg5 harg5 arg6 harg6 arg7 harg7 arg8 harg8 h1 X2 X7 k,
      ∀ x, p.2 x = Wt (View.read (Elt Ideal) arg2.view X2) (View.read (Elt Ideal) arg7.view X7) (p.1.emb x) := by
  have hk : k.val < 112 := trips_eq ▸ k.isLt
  unfold tripL_k0_t1 trip_k0_t1
  dsimp only
  intro p hp
  rcases List.mem_cons.mp hp with rfl | hp
  · intro x
    obtain ⟨r, e, rfl⟩ : ∃ (r : Fin 32) (e : Fin 960), x = ix2 r e := ⟨x 0, x 1, eq_ix2 x⟩
    refine (high_apply _ _ r e).trans ?_
    have hr := r.isLt
    have he := e.isLt
    rw [show (Rect.unit (s := S3584x1920) (k0_off4 k) ![32, 960] _).emb (ix2 r e)
        = ix2 (⟨32 * k.val + r.val, by omega⟩ : Fin 3584) (⟨960 + e.val, by omega⟩ : Fin 1920) from
      unit_at _ _ _ _ (off4_eq k) r e _ _ rfl rfl]
    rw [Wt_high _ _ _ _ (show ¬ 960 + e.val < 960 by omega)]
    rw [View.readAt_apply, View.readAt_apply]
    rw [show (Rect.unit (s := S3584x960) (k0_off1 k) ![32, 960] _).toLoadRect.idx (ix2 r e)
        = ix2 (⟨32 * k.val + r.val, by omega⟩ : Fin 3584) (⟨960 + e.val - 960, by omega⟩ : Fin 960) from
      unit_at _ _ _ _ (off1_eq k) r e _ _ rfl (by show 960 + e.val - 960 = 0 + e.val; omega)]
    rw [show (Rect.unit (s := S112x1920) (k0_off2 k) ![1, 1920] _).toLoadRect.idx (ix2 0 (⟨960 + e.val, by omega⟩ : Fin 1920))
        = ix2 (⟨(32 * k.val + r.val) / 32, by omega⟩ : Fin 112) (⟨960 + e.val, by omega⟩ : Fin 1920) from
      unit_at _ _ _ _ (off2_eq k) 0 _ _ _ (by show (32 * k.val + r.val) / 32 = k.val + 0; omega) (Nat.zero_add _).symm]
  · rcases List.mem_cons.mp hp with rfl | hp
    · intro x
      obtain ⟨r, e, rfl⟩ : ∃ (r : Fin 32) (e : Fin 960), x = ix2 r e := ⟨x 0, x 1, eq_ix2 x⟩
      refine (low_apply _ _ r e).trans ?_
      have hr := r.isLt
      have he := e.isLt
      rw [show (Rect.unit (s := S3584x1920) (k0_off3 k) ![32, 960] _).emb (ix2 r e)
          = ix2 (⟨32 * k.val + r.val, by omega⟩ : Fin 3584) (⟨e.val, by omega⟩ : Fin 1920) from
        unit_at _ _ _ _ (off3_eq k) r e _ _ rfl (Nat.zero_add _).symm]
      rw [Wt_low _ _ _ _ (show e.val < 960 from he)]
      rw [View.readAt_apply, View.readAt_apply]
      rw [show (Rect.unit (s := S3584x960) (k0_off1 k) ![32, 960] _).toLoadRect.idx (ix2 r e)
          = ix2 (⟨32 * k.val + r.val, by omega⟩ : Fin 3584) e from
        unit_at _ _ _ _ (off1_eq k) r e _ _ rfl (Nat.zero_add _).symm]
      rw [show (Rect.unit (s := S112x1920) (k0_off2 k) ![1, 1920] _).toLoadRect.idx (ix2 0 (⟨e.val, by omega⟩ : Fin 1920))
          = ix2 (⟨(32 * k.val + r.val) / 32, by omega⟩ : Fin 112) (⟨e.val, by omega⟩ : Fin 1920) from
        unit_at _ _ _ _ (off2_eq k) 0 _ _ _ (by show (32 * k.val + r.val) / 32 = k.val + 0; omega) (Nat.zero_add _).symm]
    · simp at hp

/-- A trip's slabs cover its 32 rows. -/
theorem trip_cover (k : Fin k0_t1_loop.trips) (y : S3584x1920.Idx) (h : (y 0).val / 32 = k.val) :
    ∃ p ∈ tripL_k0_t1 (F := Ideal) Variants.none c none i arg1 harg1 arg2 harg2 arg3 harg3 arg4 harg4 arg5 harg5 arg6 harg6 arg7 harg7 arg8 harg8 h1 X2 X7 k,
      y ∈ p.1.set := by
  have hy : (y 1).val < 1920 := (y 1).isLt
  unfold tripL_k0_t1 trip_k0_t1
  dsimp only
  by_cases hc : (y 1).val < 960
  · refine ⟨_, List.mem_cons_of_mem _ List.mem_cons_self, ?_⟩
    dsimp only
    rw [Rect.mem_set_unit, off3_eq]
    intro a
    match a with
    | 0 => exact ⟨(by show 32 * k.val ≤ (y 0).val; omega), (by show (y 0).val < 32 * k.val + 32; omega)⟩
    | 1 => exact ⟨(by show 0 ≤ (y 1).val; omega), (by show (y 1).val < 0 + 960; omega)⟩
  · refine ⟨_, List.mem_cons_self, ?_⟩
    dsimp only
    rw [Rect.mem_set_unit, off4_eq]
    intro a
    match a with
    | 0 => exact ⟨(by show 32 * k.val ≤ (y 0).val; omega), (by show (y 0).val < 32 * k.val + 32; omega)⟩
    | 1 => exact ⟨(by show 960 ≤ (y 1).val; omega), (by show (y 1).val < 960 + 960; omega)⟩

/-- Every slab of the first `n` trips is the weight matrix at its place. -/
theorem pieces : ∀ n, n ≤ 112 →
    ∀ p ∈ pb_k0_t1 (F := Ideal) Variants.none c none i arg1 harg1 arg2 harg2 arg3 harg3 arg4 harg4 arg5 harg5 arg6 harg6 arg7 harg7 arg8 harg8 h1 X2 X7 n,
      ∀ x, p.2 x = Wt (View.read (Elt Ideal) arg2.view X2) (View.read (Elt Ideal) arg7.view X7) (p.1.emb x)
  | 0, _ => fun p hp => absurd hp (by rw [pb_k0_t1.eq_1]; simp)
  | n + 1, h => by
      intro p hp
      rw [pb_k0_t1_succ (F := Ideal) Variants.none c none i arg1 harg1 arg2 harg2 arg3 harg3 arg4 harg4 arg5 harg5 arg6 harg6 arg7 harg7
        arg8 harg8 h1 X2 X7 ⟨n, by rw [trips_eq]; omega⟩] at hp
      rcases List.mem_append.mp hp with hp | hp
      · exact trip_pieces c i arg1 harg1 arg2 harg2 arg3 harg3 arg4 harg4 arg5 harg5 arg6 harg6 arg7 harg7 arg8 harg8 h1 X2 X7 _ p hp
      · exact pieces n (by omega) p hp

/-- The first `n` trips cover the first `32 n` rows. -/
theorem covers (y : S3584x1920.Idx) : ∀ n, n ≤ 112 → (y 0).val < 32 * n →
    ∃ p ∈ pb_k0_t1 (F := Ideal) Variants.none c none i arg1 harg1 arg2 harg2 arg3 harg3 arg4 harg4 arg5 harg5 arg6 harg6 arg7 harg7 arg8 harg8 h1 X2 X7 n,
      y ∈ p.1.set
  | 0, _, hy => absurd hy (by omega)
  | n + 1, h, hy => by
      rw [pb_k0_t1_succ (F := Ideal) Variants.none c none i arg1 harg1 arg2 harg2 arg3 harg3 arg4 harg4 arg5 harg5 arg6 harg6 arg7 harg7
        arg8 harg8 h1 X2 X7 ⟨n, by rw [trips_eq]; omega⟩]
      by_cases hn : (y 0).val < 32 * n
      · obtain ⟨p, hp, hm⟩ := covers y n (by omega) hn
        exact ⟨p, List.mem_append_right _ hp, hm⟩
      · obtain ⟨p, hp, hm⟩ := trip_cover c i arg1 harg1 arg2 harg2 arg3 harg3 arg4 harg4 arg5 harg5 arg6 harg6 arg7 harg7 arg8 harg8 h1 X2 X7
          ⟨n, by rw [trips_eq]; omega⟩ y (by show (y 0).val / 32 = n; omega)
        exact ⟨p, List.mem_append_left _ hp, hm⟩

/-- After the loop the scratch holds the weight matrix. -/
theorem canon_loop :
    View.canon (pb_k0_t1 (F := Ideal) Variants.none c none i arg1 harg1 arg2 harg2 arg3 harg3 arg4 harg4 arg5 harg5 arg6 harg6 arg7 harg7 arg8 harg8 h1 X2 X7 112)
      = Wt (View.read (Elt Ideal) arg2.view X2) (View.read (Elt Ideal) arg7.view X7) := by
  funext y
  refine View.canon_apply_of_pieces _ _ (pieces c i arg1 harg1 arg2 harg2 arg3 harg3 arg4 harg4 arg5 harg5 arg6 harg6 arg7 harg7 arg8 harg8 h1 X2 X7 112 le_rfl) y ?_
  exact covers c i arg1 harg1 arg2 harg2 arg3 harg3 arg4 harg4 arg5 harg5 arg6 harg6 arg7 harg7 arg8 harg8 h1 X2 X7 y 112 le_rfl (by have := (y 0).isLt; simp at this; omega)
end

end Cert.KernelIdeal.Block
end
-- ==== Proof.KernelPoints.lean ====
/-
  What the kernel's points compute: the weight scratch holds the same weight matrix at every point, and each point's
  outputs are its block's codes, scales and product.
-/
module

public import proofs.«01_k».proof.Proof.KernelScratch
public import Idealize.ShloMosaic.Lib.Pipeline.ReadBack

@[expose] public section
set_option maxRecDepth 16384
noncomputable section

namespace Cert.KernelIdeal.Block
open Idealize.ShloMosaic Idealize.ShloMosaic.TcCoe Idealize.SL.Sem
open Cert.KernelIdeal Cert.KernelIdeal.Gen Cert.Proof
variable (m : (ℓ : Loc nD τ sig) → Buf (Elt Ideal) ℓ)

theorem win0_0_index : ∀ t : Fin cfg0.N, win0_0.index t (0 : Fin 2) = t.val ∧ win0_0.index t (1 : Fin 2) = 0 :=
  (by decide +kernel : ∀ t : Fin grid0.N, _)
theorem win0_1_index : ∀ t : Fin cfg0.N, win0_1.index t (0 : Fin 2) = 0 ∧ win0_1.index t (1 : Fin 2) = 0 :=
  (by decide +kernel : ∀ t : Fin grid0.N, _)
theorem win0_2_index : ∀ t : Fin cfg0.N, win0_2.index t (0 : Fin 2) = 0 ∧ win0_2.index t (1 : Fin 2) = 0 :=
  (by decide +kernel : ∀ t : Fin grid0.N, _)

/-- The packed weights argument. -/
def argP (c : Dev nD) : Vec Ideal S3584x960 .i8 := m ((c : Thread nD τ).loc main_arg1)
/-- The weight scales argument. -/
def argS (c : Dev nD) : Vec Ideal S112x1920 .i8 := m ((c : Thread nD τ).loc main_arg2)
/-- The activations argument as rows. -/
def rowX (c : Dev nD) (r : Fin 12288) (k : Fin 3584) : EReal :=
  m ((c : Thread nD τ).loc main_arg0) (ix3 (n0 := 4) (n1 := 3072) (n2 := 3584) ⟨r.val / 3072, by omega⟩ ⟨r.val % 3072, by omega⟩ k)

/-- Every point's block of packed weights is the whole array. -/
theorem iblk1_eq (c : Dev nD) (t : Fin cfg0.N) : iblk m c 1 t = argP m c := by
  funext y
  obtain ⟨a, b, rfl⟩ : ∃ (a : Fin 3584) (b : Fin 960), y = ix2 a b := ⟨y 0, y 1, eq_ix2 y⟩
  blk_point [iblk, V, argP, win0_1_index t]

/-- Every point's block of weight scales is the whole array. -/
theorem iblk2_eq (c : Dev nD) (t : Fin cfg0.N) : iblk m c 2 t = argS m c := by
  funext y
  obtain ⟨a, b, rfl⟩ : ∃ (a : Fin 112) (b : Fin 1920), y = ix2 a b := ⟨y 0, y 1, eq_ix2 y⟩
  blk_point [iblk, V, argS, win0_2_index t]

/-- Row `r` of point `t`'s block of activations is row `512 t + r`. -/
theorem iblk0_apply (c : Dev nD) (t : Fin cfg0.N) (r : Fin 512) (k : Fin 3584) (R : Fin 12288) (hR : R.val = 512 * t.val + r.val) :
    iblk m c 0 t (ix2 r k) = rowX m c R k := by
  blk_point [iblk, V, rowX, win0_0_index t]

/-- One store of the whole scale scratch holds what was stored. -/
theorem canon_scales (X : FVec Ideal S112x1920 .f32) :
    View.canon (Val := Elt Ideal) (s := S112x1920) (e := .f32) [⟨Rect.unit ![0, 0] ![112, 1920] inb_S112x1920_S112x1920_0_0, X⟩] = X := by
  funext y
  obtain ⟨a, b, rfl⟩ : ∃ (a : Fin 112) (b : Fin 1920), y = ix2 a b := ⟨y 0, y 1, eq_ix2 y⟩
  have e := View.canon_cons_emb (Val := Elt Ideal) (e := .f32) (Rect.unit (s := S112x1920) ![0, 0] ![112, 1920] inb_S112x1920_S112x1920_0_0) X [] (ix2 a b)
  rw [show (Rect.unit (s := S112x1920) ![0, 0] ![112, 1920] inb_S112x1920_S112x1920_0_0).emb (ix2 a b) = ix2 a b from
    unit_at _ _ 0 0 rfl a b a b (Nat.zero_add _).symm (Nat.zero_add _).symm] at e
  exact e

/-- The one store of the whole scale scratch, read back. -/
theorem read_scales (X : FVec Ideal S112x1920 .f32) :
    View.read (Elt Ideal) scM0_0.view ((View.whole cc0_scratch0).writes (Elt Ideal) (View.whole cc0_scratch0).junk
      [⟨Rect.unit ![0, 0] ![112, 1920] inb_S112x1920_S112x1920_0_0, X⟩]) = X := by
  refine Eq.trans ?_ (canon_scales X)
  exact View.read_writes_junk_eq_canon scM0_0.view _

theorem scratch_A (c : Dev nD) (t : Fin cfg0.N) (acc) (h0 : t.val % 24 = 0) :
    (Value.stAt0 m c t.val t.isLt acc).2.2.2 = Wt (argP m c) (k0_pay6 (argS m c)) := by
  rw [Value.stAt0_A m c t acc h0]; dsimp only; frame_out
  refine (canon_loop _ _ _ _ _ _ _ _ _ _ _ _ _ _ _ _ _ _ _ _ _).trans ?_
  rw [read_scales, Memref.IsWhole.read_unread, iblk1_eq, iblk2_eq]

theorem scratch_B (c : Dev nD) (t : Fin cfg0.N) (acc) (h0 : ¬ t.val % 24 = 0) :
    (Value.stAt0 m c t.val t.isLt acc).2.2.2 = acc.2.2.2 := by
  rw [Value.stAt0_B m c t acc h0]
  rfl

theorem y_A (c : Dev nD) (t : Fin cfg0.N) (acc) (h0 : t.val % 24 = 0) :
    (Value.stAt0 m c t.val t.isLt acc).1 = k0_pay2 (k0_pay8 (iblk m c 0 t)) (k0_pay10 (iblk m c 0 t)) (k0_pay11 (iblk m c 0 t))
      (Wt (argP m c) (k0_pay6 (argS m c))) := by
  rw [Value.stAt0_A m c t acc h0]; dsimp only; frame_out
  rw [View.readCov_eq_canon']
  congr 1
  funext j
  refine (congrFun (canon_loop _ _ _ _ _ _ _ _ _ _ _ _ _ _ _ _ _ _ _ _ _) _).trans ?_
  rw [read_scales, Memref.IsWhole.read_unread, iblk1_eq, iblk2_eq]
  obtain ⟨a, b, rfl⟩ : ∃ (a : Fin 3584) (b : Fin 1920), j = ix2 a b := ⟨j 0, j 1, eq_ix2 j⟩
  exact congrArg _ (unit_at _ _ 0 0 rfl a b a b (Nat.zero_add _).symm (Nat.zero_add _).symm)

theorem y_B (c : Dev nD) (t : Fin cfg0.N) (acc) (h0 : ¬ t.val % 24 = 0) :
    (Value.stAt0 m c t.val t.isLt acc).1 = k0_pay2 (k0_pay8 (iblk m c 0 t)) (k0_pay10 (iblk m c 0 t)) (k0_pay11 (iblk m c 0 t)) acc.2.2.2 := by
  rw [Value.stAt0_B m c t acc h0]; dsimp only; frame_out
  rw [read_unread_whole]

theorem codes_AB (c : Dev nD) (t : Fin cfg0.N) (acc) :
    (Value.stAt0 m c t.val t.isLt acc).2.1 = k0_pay1 (k0_pay8 (iblk m c 0 t)) (k0_pay11 (iblk m c 0 t)) := by
  by_cases h0 : t.val % 24 = 0
  · rw [Value.stAt0_A m c t acc h0]; dsimp only; frame_out
  · rw [Value.stAt0_B m c t acc h0]; dsimp only; frame_out

theorem scale_AB (c : Dev nD) (t : Fin cfg0.N) (acc) :
    (Value.stAt0 m c t.val t.isLt acc).2.2.1 = k0_pay10 (iblk m c 0 t) := by
  by_cases h0 : t.val % 24 = 0
  · rw [Value.stAt0_A m c t acc h0]; dsimp only; frame_out
  · rw [Value.stAt0_B m c t acc h0]; dsimp only; frame_out

end Cert.KernelIdeal.Block
end
-- ==== Proof.KernelArray.lean ====
/-
  What the kernel's three result arrays hold, entry by entry.
-/
module

public import proofs.«01_k».proof.Proof.KernelPoints

@[expose] public section
set_option maxRecDepth 16384
noncomputable section

namespace Cert.KernelIdeal.Block
open Idealize.ShloMosaic Idealize.ShloMosaic.TcCoe Idealize.SL.Sem
open Cert.KernelIdeal Cert.KernelIdeal.Gen Cert.Proof
variable (m : (ℓ : Loc nD τ sig) → Buf (Elt Ideal) ℓ)

/-- The kernel's code of entry `k` of a row. -/
def kcode (x : Fin 3584 → EReal) (k : Fin 3584) : EReal :=
  min (Ideal.ofBits .f32 1138753536#32) (max (Ideal.ofBits .f32 3286237184#32) (x k * kinv (rowTop x)))

/-- What the points up to `n` leave: the outputs of point `n` and the scratch. -/
abbrev left (c : Dev nD) (n : ℕ) (h : 0 + n < cfg0.N) :=
  Pipeline.accAt (fun n h => Value.stAt0 m c n h Value.junk0) (Value.stAt0 m c) 0 n h

/-- The scratch holds the weight matrix after every point. -/
theorem left_scratch (c : Dev nD) : ∀ (n : ℕ) (h : 0 + n < cfg0.N), (left m c n h).2.2.2 = Wt (argP m c) (k0_pay6 (argS m c))
  | 0, h => scratch_A m c ⟨0, h⟩ _ (Nat.zero_mod _)
  | n + 1, h => (scratch_B m c ⟨0 + (n + 1), h⟩ _ (by have := lt_of_lt_of_eq h N_0; show ¬ (0 + (n + 1)) % 24 = 0; omega)).trans
      (left_scratch c n (Nat.lt_of_succ_lt h))

theorem left_y (c : Dev nD) : ∀ (n : ℕ) (h : 0 + n < cfg0.N), (left m c n h).1
      = k0_pay2 (k0_pay8 (iblk m c 0 ⟨0 + n, h⟩)) (k0_pay10 (iblk m c 0 ⟨0 + n, h⟩)) (k0_pay11 (iblk m c 0 ⟨0 + n, h⟩))
        (Wt (argP m c) (k0_pay6 (argS m c)))
  | 0, h => y_A m c ⟨0, h⟩ _ (Nat.zero_mod _)
  | n + 1, h => (y_B m c ⟨0 + (n + 1), h⟩ _ (by have := lt_of_lt_of_eq h N_0; show ¬ (0 + (n + 1)) % 24 = 0; omega)).trans
      (congrArg _ (left_scratch m c n (Nat.lt_of_succ_lt h)))

theorem left_codes (c : Dev nD) : ∀ (n : ℕ) (h : 0 + n < cfg0.N), (left m c n h).2.1
      = k0_pay1 (k0_pay8 (iblk m c 0 ⟨0 + n, h⟩)) (k0_pay11 (iblk m c 0 ⟨0 + n, h⟩))
  | 0, h => codes_AB m c ⟨0, h⟩ _
  | n + 1, h => codes_AB m c ⟨0 + (n + 1), h⟩ _

theorem left_scale (c : Dev nD) : ∀ (n : ℕ) (h : 0 + n < cfg0.N), (left m c n h).2.2.1 = k0_pay10 (iblk m c 0 ⟨0 + n, h⟩)
  | 0, h => scale_AB m c ⟨0, h⟩ _
  | n + 1, h => scale_AB m c ⟨0 + (n + 1), h⟩ _

/-- The codes array. -/
theorem G4_apply (c : Dev nD) (R : Fin 12288) (k : Fin 3584) : Value.G4 m c (ix2 R k) = kcode (rowX m c R) k := by
  have hp : Value.pt4Of (ix2 R k) = R.val / 512 := by
    show 1 * (R.val / 512 - 0) + 1 * (k.val / 3584 - 0) = _
    omega
  have hl : Value.loc4Of (ix2 R k) = ix2 ⟨R.val % 512, by omega⟩ k :=
    funext fun a => match a with
      | ⟨0, _⟩ => rfl
      | ⟨1, _⟩ => Fin.ext (Nat.mod_eq_of_lt k.isLt)
  have hN : 0 + Value.pt4Of (ix2 R k) < cfg0.N := by rw [hp, show cfg0.N = 24 from N_0]; omega
  have hx : ∀ l, iblk m c 0 ⟨0 + Value.pt4Of (ix2 R k), hN⟩ (ix2 ⟨R.val % 512, by omega⟩ l) = rowX m c R l := fun l =>
    iblk0_apply m c _ _ l R (by show R.val = 512 * (0 + Value.pt4Of _) + R.val % 512; rw [hp]; omega)
  unfold Value.G4
  rw [dif_pos (by omega), hl]
  refine (congrFun (left_codes m c _ hN) _).trans ?_
  rw [codes_apply]
  simp only [hx, kcode]

/-- The scales array. -/
theorem G5_apply (c : Dev nD) (R : Fin 12288) : Value.G5 m c (ix2 R 0) = kscale (rowTop (rowX m c R)) := by
  have hp : Value.pt5Of (ix2 R 0) = R.val / 512 := by
    show 1 * (R.val / 512 - 0) + 1 * (0 / 1 - 0) = _
    omega
  have hl : Value.loc5Of (ix2 R 0) = ix2 ⟨R.val % 512, by omega⟩ 0 :=
    funext fun a => match a with
      | ⟨0, _⟩ => rfl
      | ⟨1, _⟩ => rfl
  have hN : 0 + Value.pt5Of (ix2 R 0) < cfg0.N := by rw [hp, show cfg0.N = 24 from N_0]; omega
  have hx : ∀ k, iblk m c 0 ⟨0 + Value.pt5Of (ix2 R 0), hN⟩ (ix2 ⟨R.val % 512, by omega⟩ k) = rowX m c R k := fun k =>
    iblk0_apply m c _ _ k R (by show R.val = 512 * (0 + Value.pt5Of _) + R.val % 512; rw [hp]; omega)
  unfold Value.G5
  rw [dif_pos (by omega), hl]
  refine (congrFun (left_scale m c _ hN) _).trans ?_
  rw [pay10_apply]
  simp only [hx]

/-- The product array. -/
theorem G3_apply (c : Dev nD) (R : Fin 12288) (e : Fin 1920) : Value.G3 m c (ix2 R e)
    = ∑ k, kcode (rowX m c R) k * kscale (rowTop (rowX m c R)) * Wt (argP m c) (k0_pay6 (argS m c)) (ix2 k e) := by
  have hp : Value.pt3Of (ix2 R e) = R.val / 512 := by
    show 1 * (R.val / 512 - 0) + 1 * (e.val / 1920 - 0) = _
    omega
  have hl : Value.loc3Of (ix2 R e) = ix2 ⟨R.val % 512, by omega⟩ e :=
    funext fun a => match a with
      | ⟨0, _⟩ => rfl
      | ⟨1, _⟩ => Fin.ext (Nat.mod_eq_of_lt e.isLt)
  have hN : 0 + Value.pt3Of (ix2 R e) < cfg0.N := by rw [hp, show cfg0.N = 24 from N_0]; omega
  have hx : ∀ k, iblk m c 0 ⟨0 + Value.pt3Of (ix2 R e), hN⟩ (ix2 ⟨R.val % 512, by omega⟩ k) = rowX m c R k := fun k =>
    iblk0_apply m c _ _ k R (by show R.val = 512 * (0 + Value.pt3Of _) + R.val % 512; rw [hp]; omega)
  unfold Value.G3
  rw [dif_pos (by omega), hl]
  refine (congrFun (left_y m c _ hN) _).trans ?_
  rw [product_apply]
  simp only [codes_apply, hx, kcode]

end Cert.KernelIdeal.Block
end
-- ==== Proof.ReferenceBlock.lean ====
/-
  What the reference computes, entry by entry.
-/
module

public import proofs.«01_k».proof.Proof.Gen.ReferenceIdeal.Value
public import proofs.«01_k».proof.Proof.Decode
public import proofs.«01_k».proof.Proof.Row

@[expose] public section
set_option maxRecDepth 16384
noncomputable section

namespace Cert.ReferenceIdeal.Block
open Idealize.ShloMosaic Idealize.ShloMosaic.TcCoe Idealize.SL.Sem
open Cert.ReferenceIdeal Cert.ReferenceIdeal.Gen Cert.Proof

/-- The largest magnitude of each row. -/
def top (X : Vec Ideal S12288x3584 .bf16) : FVec Ideal S12288 .f32 :=
  multiReduction .maximumf [1] S12288 (absf (k0_pay2 X)) 0xFF800000#32 reduces_S12288x3584_S12288 (.inl rfl) rfl

/-- Each row's largest magnitude times the constant. -/
def scaled (M : FVec Ideal S12288 .f32) : FVec Ideal S12288x1 .f32 :=
  mulf (shapeCast S12288x1 M shapeCasts_S12288_S12288x1) (broadcast S12288x1 (Scalar.ofBits .f32 0x3B124925#32))

/-- The exponents tried. -/
def places : FVec Ideal S1x256 .f32 :=
  sitofp .f32 (subi (iota .tc S1x256 32 [1] iota_S1x256_d1_w32) (broadcast S1x256 125#32))

/-- The exponents whose power of two is above the row's number; infinity for the others. -/
def above (T : FVec Ideal S12288x1 .f32) : FVec Ideal S12288x256 .f32 :=
  select (cmpf .olt (broadcastTo S12288x256 T broadcasts_S12288x1_S12288x256)
      (broadcastTo S12288x256 (exp2 places) broadcasts_S1x256_S12288x256))
    (broadcastTo S12288x256 (shapeCast S1x256 places shapeCasts_S1x256_S1x256) broadcasts_S1x256_S12288x256)
    (broadcast S12288x256 (Scalar.ofBits .f32 0x7F800000#32))

/-- The least of them. -/
def least (A : FVec Ideal S12288x256 .f32) : FVec Ideal S12288 .f32 :=
  multiReduction .minimumf [1] S12288 A 0x7F800000#32 reduces_S12288x256_S12288 (.inl rfl) rfl

/-- Zero for a row below the smallest normal number. -/
def expn (T : FVec Ideal S12288x1 .f32) (L : FVec Ideal S12288 .f32) : FVec Ideal S12288x1 .f32 :=
  select (cmpf .olt T (broadcast S12288x1 (Scalar.ofBits .f32 0x00800000#32))) (broadcast S12288x1 (Scalar.ofBits .f32 0x00000000#32))
    (shapeCast S12288x1 L shapeCasts_S12288_S12288x1)

theorem pay3_eq (X : Vec Ideal S12288x3584 .bf16) :
    k0_pay3 X = expn (scaled (top X)) (least (above (scaled (top X)))) := rfl

theorem pay2_apply (X : Vec Ideal S12288x3584 .bf16) (r : Fin 12288) (k : Fin 3584) : k0_pay2 X (ix2 r k) = X (ix2 r k) := by
  pointwise [k0_pay2]

theorem top_apply (X : Vec Ideal S12288x3584 .bf16) (r : Fin 12288) :
    top X (ix1 r) = Finset.univ.fold max ⊥ fun k : Fin 3584 => FloatOps.absf (F := Ideal) (φ := .f32) (X (ix2 r k)) := by
  have h : top X (ix1 r) = Finset.univ.fold max (Ideal.ofBits .f32 0xFF800000#32) fun k => absf (k0_pay2 X) (ix2 r k) :=
    (multiReduction_maximumf_eq_fold _ _ reduces_S12288x3584_S12288 _ _ _).trans (Shape.Reduces.fold_fiber_r2_a1 _ _ _ _ _)
  rw [h, show Ideal.ofBits .f32 0xFF800000#32 = ⊥ from ofBits_f32_bot]
  refine Finset.fold_congr fun k _ => ?_
  show FloatOps.absf (F := Ideal) (φ := .f32) (k0_pay2 X (ix2 r k)) = _
  rw [pay2_apply]

theorem scaled_apply (M : FVec Ideal S12288 .f32) (r : Fin 12288) : scaled M (ix2 r 0) = M (ix1 r) * Ideal.ofBits .f32 991054117#32 := by
  pointwise [scaled]

theorem above_apply (T : FVec Ideal S12288x1 .f32) (r : Fin 12288) (x : Fin 256) :
    above T (ix2 r x) =
      if T (ix2 r 0) < FloatOps.exp2 (F := Ideal) (φ := .f32) (FloatOps.sitofp (F := Ideal) FTy.f32 (IntOp.subi (BitVec.ofNat 32 x.val) 125#32))
      then FloatOps.sitofp (F := Ideal) FTy.f32 (IntOp.subi (BitVec.ofNat 32 x.val) 125#32)
      else Ideal.ofBits FTy.f32 2139095040#32 := by
  pointwise [above, places]

theorem least_apply (A : FVec Ideal S12288x256 .f32) (r : Fin 12288) :
    least A (ix1 r) = Finset.univ.fold min (Ideal.ofBits FTy.f32 2139095040#32) fun x : Fin 256 => A (ix2 r x) :=
  (multiReduction_minimumf_eq_fold A _ reduces_S12288x256_S12288 _ _ _).trans (Shape.Reduces.fold_fiber_r2_a1 _ _ _ _ _)

theorem expn_apply (T : FVec Ideal S12288x1 .f32) (L : FVec Ideal S12288 .f32) (r : Fin 12288) :
    expn T L (ix2 r 0) = if T (ix2 r 0) < Ideal.ofBits FTy.f32 8388608#32 then 0 else L (ix1 r) := by
  pointwise [expn]

/-- The exponent of row `r`. -/
theorem pay3_apply (X : Vec Ideal S12288x3584 .bf16) (r : Fin 12288) :
    k0_pay3 X (ix2 r 0) = rexp (rowTop fun k => X (ix2 r k)) := by
  rw [pay3_eq, expn_apply, least_apply]
  simp only [above_apply, scaled_apply, top_apply]
  rfl

/-- The scales, from the exponents. -/
def scales (E : FVec Ideal S12288x1 .f32) : FVec Ideal S12288x1 .f32 := exp2 E

/-- The codes, from the activations and the exponents. -/
def codes (Y : FVec Ideal S12288x3584 .f32) (E : FVec Ideal S12288x1 .f32) : FVec Ideal S12288x3584 .fp8e4m3 :=
  truncf .fp8e4m3 (minimumf (broadcast S12288x3584 (Scalar.ofBits .f32 0x43E00000#32))
    (maximumf (broadcast S12288x3584 (Scalar.ofBits .f32 0xC3E00000#32))
      (mulf Y (broadcastTo S12288x3584 (exp2 (subf (broadcast S12288x1 (Scalar.ofBits .f32 0x00000000#32)) E))
        broadcasts_S12288x1_S12288x3584)))) bitsLt_fp8e4m3_f32

/-- The dequantised activations, from the codes and the scales. -/
def dequant (Q : FVec Ideal S12288x3584 .fp8e4m3) (S : FVec Ideal S12288x1 .f32) : FVec Ideal S12288x3584 .bf16 :=
  mulf (extf .bf16 Q bitsLt_fp8e4m3_bf16)
    (broadcastTo S12288x3584 (truncf .bf16 S bitsLt_bf16_f32) broadcasts_S12288x1_S12288x3584)

theorem pay5_eq (X : Vec Ideal S12288x3584 .bf16) : k0_pay5 X = scales (k0_pay3 X) := rfl
theorem pay4_eq (X : Vec Ideal S12288x3584 .bf16) : k0_pay4 X = codes (k0_pay2 X) (k0_pay3 X) := rfl
theorem pay6_eq (X : Vec Ideal S12288x3584 .bf16) : k0_pay6 X = dequant (k0_pay4 X) (k0_pay5 X) := rfl

theorem scales_apply (E : FVec Ideal S12288x1 .f32) (r : Fin 12288) :
    scales E (ix2 r 0) = FloatOps.exp2 (F := Ideal) (φ := .f32) (E (ix2 r 0)) := rfl

theorem codesOf_apply (Y : FVec Ideal S12288x3584 .f32) (E : FVec Ideal S12288x1 .f32) (r : Fin 12288) (k : Fin 3584) :
    codes Y E (ix2 r k) = min (Ideal.ofBits .f32 1138753536#32) (max (Ideal.ofBits .f32 3286237184#32)
      (Y (ix2 r k) * FloatOps.exp2 (F := Ideal) (φ := .f32) (0 - E (ix2 r 0)))) := by
  pointwise [codes]

theorem dequantOf_apply (Q : FVec Ideal S12288x3584 .fp8e4m3) (S : FVec Ideal S12288x1 .f32) (r : Fin 12288) (k : Fin 3584) :
    dequant Q S (ix2 r k) = Q (ix2 r k) * S (ix2 r 0) := by
  pointwise [dequant]

/-- The scale of row `r`. -/
theorem scale_apply (X : Vec Ideal S12288x3584 .bf16) (r : Fin 12288) :
    k0_pay5 X (ix2 r 0) = FloatOps.exp2 (F := Ideal) (φ := .f32) (rexp (rowTop fun k => X (ix2 r k))) := by
  rw [pay5_eq, scales_apply, pay3_apply]

/-- A code: the entry times two to minus its row's exponent, clipped to the range of the eight-bit format. -/
theorem codes_apply (X : Vec Ideal S12288x3584 .bf16) (r : Fin 12288) (k : Fin 3584) :
    k0_pay4 X (ix2 r k)
      = min (Ideal.ofBits .f32 1138753536#32) (max (Ideal.ofBits .f32 3286237184#32)
          (X (ix2 r k) * FloatOps.exp2 (F := Ideal) (φ := .f32) (0 - rexp (rowTop fun k => X (ix2 r k))))) := by
  rw [pay4_eq, codesOf_apply, pay3_apply, pay2_apply]

/-- An entry of the dequantised activations: code times scale. -/
theorem dequant_apply (X : Vec Ideal S12288x3584 .bf16) (r : Fin 12288) (k : Fin 3584) :
    k0_pay6 X (ix2 r k) = k0_pay4 X (ix2 r k) * k0_pay5 X (ix2 r 0) := by
  rw [pay6_eq, dequantOf_apply]

end Cert.ReferenceIdeal.Block
end
-- ==== Proof.ReferenceWeights.lean ====
/-
  The reference's weights and its product, entry by entry.
-/
module

public import proofs.«01_k».proof.Proof.Gen.ReferenceIdeal.Value
public import proofs.«01_k».proof.Proof.Decode

@[expose] public section
set_option maxRecDepth 16384
noncomputable section

namespace Cert.ReferenceIdeal.Block
open Idealize.ShloMosaic Idealize.ShloMosaic.TcCoe Idealize.SL.Sem
open Cert.ReferenceIdeal Cert.ReferenceIdeal.Gen Cert.Proof

/-- The test of one bit of every word. -/
def bits (n : IVec S3584x960 32) (k : BitVec 32) : IVec S3584x960 1 :=
  cmpi .ne (andi n (broadcast S3584x960 k)) (broadcast S3584x960 0#32)

/-- The four-bit floats of the words' low four bits. -/
def nibs (n : IVec S3584x960 32) : FVec Ideal S3584x960 .bf16 :=
  let m : FVec Ideal S3584x960 .bf16 := select (bits n 4#32)
    (select (bits n 2#32)
      (select (bits n 1#32) (broadcast S3584x960 (Scalar.ofBits .bf16 0x40C0#16)) (broadcast S3584x960 (Scalar.ofBits .bf16 0x4080#16)))
      (select (bits n 1#32) (broadcast S3584x960 (Scalar.ofBits .bf16 0x4040#16)) (broadcast S3584x960 (Scalar.ofBits .bf16 0x4000#16))))
    (select (bits n 2#32)
      (select (bits n 1#32) (broadcast S3584x960 (Scalar.ofBits .bf16 0x3FC0#16)) (broadcast S3584x960 (Scalar.ofBits .bf16 0x3F80#16)))
      (select (bits n 1#32) (broadcast S3584x960 (Scalar.ofBits .bf16 0x3F00#16)) (broadcast S3584x960 (Scalar.ofBits .bf16 0x0000#16))))
  select (bits n 8#32) (subf (broadcast S3584x960 (Scalar.ofBits .bf16 0x0000#16)) m) m

/-- The scales of the words. -/
def scalesOf (s : IVec S112x960 32) : FVec Ideal S112x960 .f32 :=
  select (cmpi .eq s (broadcast S112x960 0#32)) (broadcast S112x960 (Scalar.ofBits .f32 0x00000000#32))
    (select (cmpi .eq s (broadcast S112x960 255#32)) (broadcast S112x960 (Scalar.ofBits .f32 0x7F800000#32))
      (exp2 (sitofp .f32 (subi s (broadcast S112x960 127#32)))))

/-- The weights: each four-bit float times its group's scale. -/
def weights (w : FVec Ideal S3584x960 .bf16) (s : FVec Ideal S112x960 .f32) : FVec Ideal S3584x960 .bf16 :=
  shapeCast S3584x960 (mulf (shapeCast S112x32x960 w shapeCasts_S3584x960_S112x32x960)
    (broadcastTo S112x32x960 (shapeCast S112x1x960 (truncf .bf16 s bitsLt_bf16_f32) shapeCasts_S112x960_S112x1x960)
      broadcasts_S112x1x960_S112x32x960)) shapeCasts_S112x32x960_S3584x960

/-- The product of the activations with the two halves of the weights, side by side. -/
def product (X : FVec Ideal S12288x3584 .bf16) (A B : FVec Ideal S3584x960 .bf16) : FVec Ideal S12288x1920 .bf16 :=
  truncf .bf16 (concatenate S12288x1920 1
    [⟨S12288x960, matmul dot_S12288x3584_S3584x960_S12288x960_1_0_0_1_n_n none X A (constant S12288x960 .f32 0x00000000#32)⟩,
     ⟨S12288x960, matmul dot_S12288x3584_S3584x960_S12288x960_1_0_0_1_n_n none X B (constant S12288x960 .f32 0x00000000#32)⟩]
    concatenates_S12288x960_S12288x960_S12288x1920_d1) bitsLt_bf16_f32

/-- The whole product, from the dequantised activations, the packed weights and their scales. -/
theorem pay1_eq (X : FVec Ideal S12288x3584 .bf16) (P : IVec S3584x960 32) (S : Vec Ideal S112x1920 .i8) :
    k0_pay1 X (k0_pay11 (k0_pay8 P) (k0_pay9 S) (k0_pay10 S)) (k0_pay13 S) (k0_pay14 P) (k0_pay15 P) (k0_pay16 P) (k0_pay17 P)
        (k0_pay18 P) (k0_pay19 P) (Scalar.ofBits .bf16 0x4000#16) k0_pay20
      = product X (weights (nibs (andi P (broadcast S3584x960 15#32))) (scalesOf (k0_pay9 S)))
          (weights (nibs (k0_pay12 P)) (scalesOf (extui 32 (k0_pay13 S) natLt_8_32))) := rfl

/-- One, as a bfloat16. -/
theorem ofBits_bf16_one : Ideal.ofBits .bf16 16256#16 = 1 := by
  rw [bf16_val 16256#16 127 0 (by decide) (by decide) (by decide) (by decide) (by decide)]
  norm_num

theorem bits_apply (n : IVec S3584x960 32) (k : BitVec 32) (r : Fin 3584) (c : Fin 960) :
    bits n k (ix2 r c) = bit (n (ix2 r c)) k := rfl

theorem nibs_apply (n : IVec S3584x960 32) (r : Fin 3584) (c : Fin 960) : nibs n (ix2 r c) = nib (n (ix2 r c)) := by
  pointwise [nibs, bits_apply]
  unfold nib mag
  rw [ofBits_bf16_one]

theorem scalesOf_apply (s : IVec S112x960 32) (g : Fin 112) (c : Fin 960) (b : BitVec 8) (h : s (ix2 g c) = BitVec.setWidth 32 b) :
    scalesOf s (ix2 g c) = rscale b := by
  pointwise [scalesOf]
  rw [h]
  rfl

theorem weights_apply (w : FVec Ideal S3584x960 .bf16) (s : FVec Ideal S112x960 .f32) (r : Fin 3584) (c : Fin 960) :
    weights w s (ix2 r c) = w (ix2 r c) * s (ix2 ⟨r.val / 32, by omega⟩ c) := by
  pointwise [weights]

theorem product_apply (X : FVec Ideal S12288x3584 .bf16) (A B : FVec Ideal S3584x960 .bf16) (r : Fin 12288) (c : Fin 1920) :
    product X A B (ix2 r c) = if h : c.val < 960 then ∑ k, X (ix2 r k) * A (ix2 k ⟨c.val, h⟩)
      else ∑ k, X (ix2 r k) * B (ix2 k ⟨c.val - 960, by omega⟩) := by
  pointwise [product]

end Cert.ReferenceIdeal.Block
end
-- ==== Proof.ReferenceArray.lean ====
/-
  What the reference's three result arrays hold, entry by entry.
-/
module

public import proofs.«01_k».proof.Proof.ReferenceBlock
public import proofs.«01_k».proof.Proof.ReferenceWeights
public import Idealize.ShloMosaic.Lib.Pipeline.ValueKit

@[expose] public section
set_option maxRecDepth 16384
noncomputable section

namespace Cert.ReferenceIdeal.Block
open Idealize.ShloMosaic Idealize.ShloMosaic.TcCoe Idealize.SL.Sem
open Cert.ReferenceIdeal Cert.ReferenceIdeal.Gen Cert.Proof
open Idealize.ShloMosaic.Pipeline (Dat)
variable (m : (ℓ : Loc nD τ sig) → Buf (Elt Ideal) ℓ)

theorem win0_0_index : ∀ t : Fin cfg0.N, win0_0.index t (0 : Fin 2) = 0 ∧ win0_0.index t (1 : Fin 2) = 0 :=
  (by decide +kernel : ∀ t : Fin grid0.N, _)
theorem win0_1_index : ∀ t : Fin cfg0.N, win0_1.index t (0 : Fin 2) = 0 ∧ win0_1.index t (1 : Fin 2) = 0 :=
  (by decide +kernel : ∀ t : Fin grid0.N, _)
theorem win0_2_index : ∀ t : Fin cfg0.N, win0_2.index t (0 : Fin 2) = 0 ∧ win0_2.index t (1 : Fin 2) = 0 :=
  (by decide +kernel : ∀ t : Fin grid0.N, _)
theorem win0_3_index : ∀ t : Fin cfg0.N, win0_3.index t (0 : Fin 2) = 0 ∧ win0_3.index t (1 : Fin 2) = 0 :=
  (by decide +kernel : ∀ t : Fin grid0.N, _)
theorem win0_4_index : ∀ t : Fin cfg0.N, win0_4.index t (0 : Fin 2) = 0 ∧ win0_4.index t (1 : Fin 2) = 0 :=
  (by decide +kernel : ∀ t : Fin grid0.N, _)
theorem win0_5_index : ∀ t : Fin cfg0.N, win0_5.index t (0 : Fin 2) = 0 ∧ win0_5.index t (1 : Fin 2) = 0 :=
  (by decide +kernel : ∀ t : Fin grid0.N, _)

/-- The packed weights argument. -/
def argP (c : Dev nD) : Vec Ideal S3584x960 .i8 := m ((c : Thread nD τ).loc main_arg1)
/-- The weight scales argument. -/
def argS (c : Dev nD) : Vec Ideal S112x1920 .i8 := m ((c : Thread nD τ).loc main_arg2)
/-- The activations argument as rows. -/
def rowX (c : Dev nD) (r : Fin 12288) (k : Fin 3584) : EReal :=
  m ((c : Thread nD τ).loc main_arg0) (ix3 (n0 := 4) (n1 := 3072) (n2 := 3584) ⟨r.val / 3072, by omega⟩ ⟨r.val % 3072, by omega⟩ k)
/-- The activations as the body sees them: one matrix of rows. -/
def matX (c : Dev nD) : Vec Ideal S12288x3584 .bf16 := fun y => rowX m c (y 0) (y 1)

theorem iblk0_eq (c : Dev nD) (t : Fin cfg0.N) : iblk m c 0 t = matX m c := by
  funext y
  obtain ⟨a, b, rfl⟩ : ∃ (a : Fin 12288) (b : Fin 3584), y = ix2 a b := ⟨y 0, y 1, eq_ix2 y⟩
  blk_point [iblk, V, matX, rowX, win0_0_index t]

theorem iblk1_eq (c : Dev nD) (t : Fin cfg0.N) : iblk m c 1 t = argP m c := by
  funext y
  obtain ⟨a, b, rfl⟩ : ∃ (a : Fin 3584) (b : Fin 960), y = ix2 a b := ⟨y 0, y 1, eq_ix2 y⟩
  blk_point [iblk, V, argP, win0_1_index t]

theorem iblk2_eq (c : Dev nD) (t : Fin cfg0.N) : iblk m c 2 t = argS m c := by
  funext y
  obtain ⟨a, b, rfl⟩ : ∃ (a : Fin 112) (b : Fin 1920), y = ix2 a b := ⟨y 0, y 1, eq_ix2 y⟩
  blk_point [iblk, V, argS, win0_2_index t]

theorem arr4 (c : Dev nD) : (dats m 0 c).arrAt 4 cfg0.N = k0_pay4 (matX m c) := by
  refine Dat.arrAt_eq_of_after_last (dats m 0 c) 4 t0_0 (by decide +kernel) _ fun j => ?_
  blk_simp
  rw [after0_4]
  frame_out
  rw [iblk0_eq]

theorem arr5 (c : Dev nD) : (dats m 0 c).arrAt 5 cfg0.N = k0_pay5 (matX m c) := by
  refine Dat.arrAt_eq_of_after_last (dats m 0 c) 5 t0_0 (by decide +kernel) _ fun j => ?_
  blk_simp
  rw [after0_5]
  frame_out
  rw [iblk0_eq]

/-- The packed weights' bytes, widened. -/
theorem pay21_eq (X : Vec Ideal S12288x3584 .bf16) (P : Vec Ideal S3584x960 .i8) (S : Vec Ideal S112x1920 .i8) :
    k0_pay21 X P S = k0_pay7 P := by
  unfold k0_pay21
  congr 1
  exact View.ld_unit_zero (funext fun a => by match a with | 0 => rfl | 1 => rfl) _ _

theorem arr3 (c : Dev nD) : (dats m 0 c).arrAt 3 cfg0.N = product (k0_pay6 (matX m c))
    (weights (nibs (andi (k0_pay7 (argP m c)) (broadcast S3584x960 15#32))) (scalesOf (k0_pay9 (argS m c))))
          (weights (nibs (k0_pay12 (k0_pay7 (argP m c)))) (scalesOf (extui 32 (k0_pay13 (argS m c)) natLt_8_32))) := by
  refine Dat.arrAt_eq_of_after_last (dats m 0 c) 3 t0_0 (by decide +kernel) _ fun j => ?_
  blk_simp
  rw [after0_3]
  frame_out
  rw [iblk0_eq, iblk1_eq, iblk2_eq]
  rw [pay21_eq]
  exact congrFun (pay1_eq (k0_pay6 (matX m c)) (k0_pay7 (argP m c)) (argS m c)) j

/-- The reference's code of entry `k` of a row. -/
def rcode (x : Fin 3584 → EReal) (k : Fin 3584) : EReal :=
  min (Ideal.ofBits .f32 1138753536#32) (max (Ideal.ofBits .f32 3286237184#32)
    (x k * FloatOps.exp2 (F := Ideal) (φ := .f32) (0 - rexp (rowTop x))))

/-- The codes array. -/
theorem arr4_apply (c : Dev nD) (R : Fin 12288) (k : Fin 3584) : (dats m 0 c).arrAt 4 cfg0.N (ix2 R k) = rcode (rowX m c R) k := by
  rw [arr4]
  exact codes_apply (matX m c) R k

/-- The scales array. -/
theorem arr5_apply (c : Dev nD) (R : Fin 12288) :
    (dats m 0 c).arrAt 5 cfg0.N (ix2 R 0) = FloatOps.exp2 (F := Ideal) (φ := .f32) (rexp (rowTop (rowX m c R))) := by
  rw [arr5]
  exact scale_apply (matX m c) R

theorem bytes_word (P : Vec Ideal S3584x960 .i8) (r : Fin 3584) (c : Fin 960) : k0_pay7 P (ix2 r c) = BitVec.setWidth 32 (P (ix2 r c)) := by
  pointwise [k0_pay7]

theorem high_word (n : IVec S3584x960 32) (r : Fin 3584) (c : Fin 960) : k0_pay12 n (ix2 r c) = IntOp.shrsi .vector (n (ix2 r c)) 4#32 := by
  pointwise [k0_pay12]

theorem low_word (n : IVec S3584x960 32) (r : Fin 3584) (c : Fin 960) :
    andi n (broadcast S3584x960 15#32) (ix2 r c) = IntOp.andi (n (ix2 r c)) 15#32 := by
  pointwise []

theorem left_scales (S : Vec Ideal S112x1920 .i8) (g : Fin 112) (c : Fin 960) :
    k0_pay9 S (ix2 g c) = BitVec.setWidth 32 (S (ix2 g ⟨c.val, by omega⟩)) := by
  pointwise [k0_pay9]

theorem right_scales (S : Vec Ideal S112x1920 .i8) (g : Fin 112) (c : Fin 960) :
    extui 32 (k0_pay13 S) natLt_8_32 (ix2 g c) = BitVec.setWidth 32 (S (ix2 g ⟨960 + c.val, by omega⟩)) := by
  pointwise [k0_pay13]

/-- The product array. -/
theorem arr3_apply (c : Dev nD) (R : Fin 12288) (e : Fin 1920) : (dats m 0 c).arrAt 3 cfg0.N (ix2 R e)
    = ∑ k : Fin 3584, rcode (rowX m c R) k * FloatOps.exp2 (F := Ideal) (φ := .f32) (rexp (rowTop (rowX m c R)))
        * ((if h : e.val < 960 then nib (IntOp.andi (BitVec.setWidth 32 (argP m c (ix2 k ⟨e.val, h⟩))) 15#32)
            else nib (IntOp.shrsi .vector (BitVec.setWidth 32 (argP m c (ix2 k ⟨e.val - 960, by omega⟩))) 4#32))
          * rscale (argS m c (ix2 ⟨k.val / 32, by omega⟩ e))) := by
  have hX : ∀ k, k0_pay6 (matX m c) (ix2 R k)
      = rcode (rowX m c R) k * FloatOps.exp2 (F := Ideal) (φ := .f32) (rexp (rowTop (rowX m c R))) := fun k =>
    (dequant_apply (matX m c) R k).trans (congrArg₂ (· * ·) (codes_apply (matX m c) R k) (scale_apply (matX m c) R))
  rw [arr3]
  refine (product_apply _ _ _ R e).trans ?_
  by_cases h : e.val < 960
  · rw [dif_pos h]
    refine Finset.sum_congr rfl fun k _ => ?_
    rw [hX, weights_apply, nibs_apply, low_word, bytes_word, scalesOf_apply _ _ _ _ (left_scales _ _ _), dif_pos h]
  · rw [dif_neg h]
    refine Finset.sum_congr rfl fun k _ => ?_
    rw [hX, weights_apply, nibs_apply, high_word, bytes_word, scalesOf_apply _ _ _ _ (right_scales _ _ _), dif_neg h]
    have he : (⟨960 + (⟨e.val - 960, by omega⟩ : Fin 960).val, by show 960 + (e.val - 960) < 1920; omega⟩ : Fin 1920) = e :=
      Fin.ext (by show 960 + (e.val - 960) = e.val; omega)
    rw [he]

end Cert.ReferenceIdeal.Block
end
-- ==== Proof.Equation.lean ====
/-
  The kernel's results are the reference's, entry by entry, when the activations are finite.
-/
module

public import proofs.«01_k».proof.Pre_x_finite
public import proofs.«01_k».proof.Proof.KernelArray
public import proofs.«01_k».proof.Proof.ReferenceArray

@[expose] public section
set_option maxRecDepth 16384
noncomputable section

namespace Cert.Proof
open Idealize.ShloMosaic Idealize.ShloMosaic.TcCoe Idealize.SL.Sem

/-- The precondition's one shape relation. -/
theorem pre_facts : Cert.Pre_x_finite.Facts := ⟨by decide⟩

/-- The precondition bounds the magnitude of every entry by the largest finite bfloat16. -/
theorem finite_of_pre [Cert.Pre_x_finite.Facts] (x : FVec Ideal Cert.Pre_x_finite.S4x3072x3584 .bf16) (P : IVec Cert.Pre_x_finite.S3584x960 8)
    (S : IVec Cert.Pre_x_finite.S112x1920 8) (h : Cert.Pre_x_finite.fn (F := Ideal) x P S = fun _ => 1#1)
    (a : Fin 4) (b : Fin 3072) (k : Fin 3584) :
    FloatOps.absf (F := Ideal) (φ := .f32) (x (ix3 a b k)) ≤ Ideal.ofBits .bf16 32639#16 := by
  have e := congrFun h (ix3 a b k)
  exact (Ideal.cmp_ole_eq_one _ _).1 e

/-- On a finite row the two codes are one. -/
theorem row_code_eq {x : Fin 3584 → EReal} (h : FiniteRow x) (k : Fin 3584) :
    Cert.KernelIdeal.Block.kcode x k = Cert.ReferenceIdeal.Block.rcode x k := by
  rw [Cert.KernelIdeal.Block.kcode, Cert.ReferenceIdeal.Block.rcode, inv_row h]

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hX : Cert.ReferenceIdeal.Block.rowX m' c = Cert.KernelIdeal.Block.rowX m c)
  (hP : Cert.ReferenceIdeal.Block.argP m' c = Cert.KernelIdeal.Block.argP m c)
  (hS : Cert.ReferenceIdeal.Block.argS m' c = Cert.KernelIdeal.Block.argS m c)
  (hfin : ∀ R, FiniteRow (Cert.KernelIdeal.Block.rowX m c R))
include hX hfin

theorem codes_equal (R : Fin 12288) (k : Fin 3584) :
    (Cert.ReferenceIdeal.Gen.dats m' 0 c).arrAt 4 Cert.ReferenceIdeal.cfg0.N (ix2 R k) = Cert.KernelIdeal.Value.G4 m c (ix2 R k) := by
  rw [Cert.KernelIdeal.Block.G4_apply, row_code_eq (hfin R), ← hX]
  exact Cert.ReferenceIdeal.Block.arr4_apply m' c R k

theorem scales_equal (R : Fin 12288) :
    (Cert.ReferenceIdeal.Gen.dats m' 0 c).arrAt 5 Cert.ReferenceIdeal.cfg0.N (ix2 R 0) = Cert.KernelIdeal.Value.G5 m c (ix2 R 0) := by
  rw [Cert.KernelIdeal.Block.G5_apply, scale_row (hfin R), ← hX]
  exact Cert.ReferenceIdeal.Block.arr5_apply m' c R

include hP hS

theorem products_equal (R : Fin 12288) (e : Fin 1920) :
    (Cert.ReferenceIdeal.Gen.dats m' 0 c).arrAt 3 Cert.ReferenceIdeal.cfg0.N (ix2 R e) = Cert.KernelIdeal.Value.G3 m c (ix2 R e) := by
  rw [Cert.KernelIdeal.Block.G3_apply]
  refine Eq.trans (α := EReal) (Cert.ReferenceIdeal.Block.arr3_apply m' c R e) ?_
  refine Finset.sum_congr rfl fun k _ => ?_
  rw [hX, hP, hS, row_code_eq (hfin R), scale_row (hfin R)]
  congr 1
  by_cases h : e.val < 960
  · rw [dif_pos h, Cert.KernelIdeal.Block.Wt_low _ _ _ _ h, Cert.KernelIdeal.Block.scales_apply]
  · rw [dif_neg h, Cert.KernelIdeal.Block.Wt_high _ _ _ _ h, Cert.KernelIdeal.Block.scales_apply]
end

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the arguments, with finite activations, the kernel and the reference both end with the
    same three arrays. -/
theorem values [Cert.Pre_x_finite.Facts] : Cert.algebraic_KernelIdeal_ReferenceIdeal_pre_x_finite := by
  intro m g m' g' hpre hag
  refine ⟨fun c => Cert.KernelIdeal.Value.G3 m c, fun c => Cert.KernelIdeal.Value.G4 m c, fun c => Cert.KernelIdeal.Value.G5 m c,
    Cert.KernelIdeal.Value.run m g, (θ_run _ _ _).mono (fun r h c => ?_) (Cert.ReferenceIdeal.Value.run_blocks m' g')⟩
  obtain ⟨h0, h1, h2, ha⟩ := h c
  obtain ⟨e0, e1, e2⟩ := hag c
  have hX : Cert.ReferenceIdeal.Block.rowX m' c = Cert.KernelIdeal.Block.rowX m c := funext fun _ => funext fun _ => congrFun e0 _
  have hP : Cert.ReferenceIdeal.Block.argP m' c = Cert.KernelIdeal.Block.argP m c := e1
  have hS : Cert.ReferenceIdeal.Block.argS m' c = Cert.KernelIdeal.Block.argS m c := e2
  have hfin : ∀ R, FiniteRow (Cert.KernelIdeal.Block.rowX m c R) := fun R k => finite_of_pre _ _ _ (hpre c) _ _ k
  refine ⟨h0.trans (funext fun y => ?_), h1.trans (funext fun y => ?_), h2.trans (funext fun y => ?_), ha⟩
  · obtain ⟨a, b, rfl⟩ : ∃ (a : Fin 12288) (b : Fin 1920), y = ix2 a b := ⟨y 0, y 1, eq_ix2 y⟩
    exact products_equal m m' c hX hP hS hfin a b
  · obtain ⟨a, b, rfl⟩ : ∃ (a : Fin 12288) (b : Fin 3584), y = ix2 a b := ⟨y 0, y 1, eq_ix2 y⟩
    exact codes_equal m m' c hX hfin a b
  · obtain ⟨a, b, rfl⟩ : ∃ (a : Fin 12288) (b : Fin 1), y = ix2 a b := ⟨y 0, y 1, eq_ix2 y⟩
    obtain rfl : b = 0 := Subsingleton.elim _ _
    exact scales_equal m m' c hX hfin a

theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial,
  @values pre_facts⟩

end Cert.Proof

end
